-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_third_nearest_apart [hPre_third_nearest_apart : Cert.Pre_third_nearest_apart.Facts] (m : (ℓ : Loc Cert.KernelIdeal.nD Cert.KernelIdeal.τ Cert.KernelIdeal.sig) → Buf (Elt Ideal) ℓ) : Prop :=
  ∀ c : Dev Cert.KernelIdeal.nD,
    (Cert.Pre_third_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_third_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_third_nearest_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_third_nearest_apart [hPre_third_nearest_apart : Cert.Pre_third_nearest_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_third_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_third_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_third_nearest_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_third_nearest_apart [hKernelIdeal : Cert.KernelIdeal.Facts] [hPre_third_nearest_apart : Cert.Pre_third_nearest_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_third_nearest_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_third_nearest_apart [hReferenceIdeal : Cert.ReferenceIdeal.Facts] [hPre_third_nearest_apart : Cert.Pre_third_nearest_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_third_nearest_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_third_nearest_apart [hKernelIdeal : Cert.KernelIdeal.Facts] [hReferenceIdeal : Cert.ReferenceIdeal.Facts] [hPre_third_nearest_apart : Cert.Pre_third_nearest_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_third_nearest_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_arg4)) (v2 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg4) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg4) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_third_nearest_apart : Cert.Pre_third_nearest_apart.Facts),
    quiescent_Kernel (hKernel := hKernel)
    ∧ quiescent_KernelIdeal (hKernelIdeal := hKernelIdeal)
    ∧ quiescent_KernelIdeal_pre_third_nearest_apart (hKernelIdeal := hKernelIdeal) (hPre_third_nearest_apart := hPre_third_nearest_apart)
    ∧ quiescent_ReferenceIdeal (hReferenceIdeal := hReferenceIdeal)
    ∧ quiescent_ReferenceIdeal_pre_third_nearest_apart (hReferenceIdeal := hReferenceIdeal) (hPre_third_nearest_apart := hPre_third_nearest_apart)
    ∧ preserves_Kernel_KernelIdeal
    ∧ algebraic_KernelIdeal_ReferenceIdeal_pre_third_nearest_apart (hKernelIdeal := hKernelIdeal) (hReferenceIdeal := hReferenceIdeal) (hPre_third_nearest_apart := hPre_third_nearest_apart)
-- ==== Pre_third_nearest_apart.lean ====
abbrev S4096x64 : Shape := ⟨2, ![4096, 64]⟩
abbrev S4096x3 : Shape := ⟨2, ![4096, 3]⟩
abbrev S4096 : Shape := ⟨1, ![4096]⟩
abbrev S8192x64 : Shape := ⟨2, ![8192, 64]⟩
abbrev S8192x3 : Shape := ⟨2, ![8192, 3]⟩
abbrev S8192 : Shape := ⟨1, ![8192]⟩
abbrev S128x128 : Shape := ⟨2, ![128, 128]⟩
abbrev S128 : Shape := ⟨1, ![128]⟩
abbrev S8192x1x3 : Shape := ⟨3, ![8192, 1, 3]⟩
abbrev S1x4096x3 : Shape := ⟨3, ![1, 4096, 3]⟩
abbrev S8192x4096x3 : Shape := ⟨3, ![8192, 4096, 3]⟩
abbrev S_ : Shape := ⟨0, ![]⟩
abbrev S8192x4096 : Shape := ⟨2, ![8192, 4096]⟩
abbrev S8192x4 : Shape := ⟨2, ![8192, 4]⟩
abbrev S8192x1 : Shape := ⟨2, ![8192, 1]⟩
abbrev S1x4096 : Shape := ⟨2, ![1, 4096]⟩

class Facts : Prop where
  bcast_S8192x3_S8192x1x3_0_2 : S8192x3.BroadcastsInDim S8192x1x3 (![0, 2] : Fin 2 → Fin S8192x1x3.rank)
  bcast_S4096x3_S1x4096x3_1_2 : S4096x3.BroadcastsInDim S1x4096x3 (![1, 2] : Fin 2 → Fin S1x4096x3.rank)
  bcast_S8192x1x3_S8192x4096x3_0_1_2 : S8192x1x3.BroadcastsInDim S8192x4096x3 (![0, 1, 2] : Fin 3 → Fin S8192x4096x3.rank)
  bcast_S1x4096x3_S8192x4096x3_0_1_2 : S1x4096x3.BroadcastsInDim S8192x4096x3 (![0, 1, 2] : Fin 3 → Fin S8192x4096x3.rank)
  reducesTo_S8192x4096x3_S8192x4096_d2 : S8192x4096x3.ReducesTo [2] S8192x4096
  h_S_ : 0 < S_.numel
  sliceFits_S8192x4096_S8192x4 : S8192x4096.Slices (fun _ => 0) S8192x4
  bcast_S8192_S8192x1_0 : S8192.BroadcastsInDim S8192x1 (![0] : Fin 1 → Fin S8192x1.rank)
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  slices_S8192x4_S8192x1_0_0 : S8192x4.Slices ![0, 0] S8192x1
  shapeCasts_S8192x1_S8192 : S8192x1.ShapeCasts S8192
  bcast_S_S8192 : S_.BroadcastsInDim S8192 (![] : Fin 0 → Fin S8192.rank)
  slices_S8192x4_S8192x1_0_2 : S8192x4.Slices ![0, 2] S8192x1
  slices_S8192x4_S8192x1_0_3 : S8192x4.Slices ![0, 3] S8192x1

variable [Facts]

def fn_part1 {F : FTy → Type} [FloatOps F] (main_values : FVec F S8192x4 .f32) (main_v12 : IVec S8192x4096 1) (main_v17 : IVec S8192 1) (main_v19 : FVec F S8192 .f32) : IVec S8192x4096 1 × IVec S8192 1 × IVec S8192 1 :=
  let main_v20 : FVec F S8192 .f32 := Host.negf main_v19
  let main_v21 : FVec F S8192x1 .f32 := (extractStridedSlice S8192x1 ![0, 3] · slices_S8192x4_S8192x1_0_3) main_values
  let main_v22 : FVec F S8192 .f32 := shapeCast S8192 main_v21 shapeCasts_S8192x1_S8192
  let main_v23 : FVec F S8192 .f32 := Host.negf main_v22
  let main_v24 : IVec S8192 1 := cmpf .olt main_v20 main_v23
  (main_v12, main_v17, main_v24)

def fn {F : FTy → Type} [FloatOps F] (main_arg0 : FVec F S4096x64 .f32) (main_arg1 : FVec F S4096x3 .f32) (main_arg2 : IVec S4096 32) (main_arg3 : FVec F S8192x64 .f32) (main_arg4 : FVec F S8192x3 .f32) (main_arg5 : IVec S8192 32) (main_arg6 : FVec F S128x128 .f32) (main_arg7 : FVec F S128 .f32) (main_arg8 : FVec F S128x128 .f32) (main_arg9 : FVec F S128 .f32) : IVec S8192x4096 1 × IVec S8192 1 × IVec S8192 1 :=
  let main_v0 : FVec F S8192x1x3 .f32 := broadcastInDim S8192x1x3 ![0, 2] bcast_S8192x3_S8192x1x3_0_2 main_arg4
  let main_v1 : FVec F S1x4096x3 .f32 := broadcastInDim S1x4096x3 ![1, 2] bcast_S4096x3_S1x4096x3_1_2 main_arg1
  let main_v2 : FVec F S8192x4096x3 .f32 := broadcastInDim S8192x4096x3 ![0, 1, 2] bcast_S8192x1x3_S8192x4096x3_0_1_2 main_v0
  let main_v3 : FVec F S8192x4096x3 .f32 := broadcastInDim S8192x4096x3 ![0, 1, 2] bcast_S1x4096x3_S8192x4096x3_0_1_2 main_v1
  let main_v4 : FVec F S8192x4096x3 .f32 := subf main_v2 main_v3
  let main_v5 : FVec F S8192x4096x3 .f32 := mulf main_v4 main_v4
  let main_cst : FVec F S_ .f32 := constant S_ .f32 0x00000000#32
  let main_v6 : FVec F S8192x4096 .f32 := (fun x v => Host.reduceAdd x v reducesTo_S8192x4096x3_S8192x4096_d2 h_S_) main_v5 main_cst
  let main_v7 : FVec F S8192x4096 .f32 := Host.negf main_v6
  let main_values : FVec F S8192x4 .f32 := (fun x => (Host.topK S8192x4 1 (FloatOps.cmpfTotal .gt) x sliceFits_S8192x4096_S8192x4).1) main_v7
  let main_indices : IVec S8192x4 32 := (fun x => (Host.topK S8192x4 1 (FloatOps.cmpfTotal .gt) x sliceFits_S8192x4096_S8192x4).2) main_v7
  let main_v8 : IVec S8192x1 32 := broadcastInDim S8192x1 ![0] bcast_S8192_S8192x1_0 main_arg5
  let main_v9 : IVec S1x4096 32 := broadcastInDim S1x4096 ![1] bcast_S4096_S1x4096_1 main_arg2
  let main_v10 : IVec S8192x4096 32 := broadcastInDim S8192x4096 ![0, 1] bcast_S8192x1_S8192x4096_0_1 main_v8
  let main_v11 : IVec S8192x4096 32 := broadcastInDim S8192x4096 ![0, 1] bcast_S1x4096_S8192x4096_0_1 main_v9
  let main_v12 : IVec S8192x4096 1 := cmpi .eq main_v10 main_v11
  let main_v13 : FVec F S8192x1 .f32 := (extractStridedSlice S8192x1 ![0, 0] · slices_S8192x4_S8192x1_0_0) main_values
  let main_v14 : FVec F S8192 .f32 := shapeCast S8192 main_v13 shapeCasts_S8192x1_S8192
  let main_v15 : FVec F S8192 .f32 := Host.negf main_v14
  let main_cst_0 : FVec F S_ .f32 := constant S_ .f32 0x24E69595#32
  let main_v16 : FVec F S8192 .f32 := broadcastInDim S8192 ![] bcast_S_S8192 main_cst_0
  let main_v17 : IVec S8192 1 := cmpf .oge main_v15 main_v16
  let main_v18 : FVec F S8192x1 .f32 := (extractStridedSlice S8192x1 ![0, 2] · slices_S8192x4_S8192x1_0_2) main_values
  let main_v19 : FVec F S8192 .f32 := shapeCast S8192 main_v18 shapeCasts_S8192x1_S8192
  fn_part1 (F := F) main_values main_v12 main_v17 main_v19
-- ==== Kernel.lean ====
abbrev S4096x64 : Shape := ⟨2, ![4096, 64]⟩
abbrev S4096x3 : Shape := ⟨2, ![4096, 3]⟩
abbrev S4096 : Shape := ⟨1, ![4096]⟩
abbrev S8192x64 : Shape := ⟨2, ![8192, 64]⟩
abbrev S8192x3 : Shape := ⟨2, ![8192, 3]⟩
abbrev S8192 : Shape := ⟨1, ![8192]⟩
abbrev S128x128 : Shape := ⟨2, ![128, 128]⟩
abbrev S128 : Shape := ⟨1, ![128]⟩
abbrev S3x4096 : Shape := ⟨2, ![3, 4096]⟩
abbrev S1x128 : Shape := ⟨2, ![1, 128]⟩
abbrev S8192x128 : Shape := ⟨2, ![8192, 128]⟩
abbrev S1024x3 : Shape := ⟨2, ![1024, 3]⟩
abbrev S1024x64 : Shape := ⟨2, ![1024, 64]⟩
abbrev S1024x128 : Shape := ⟨2, ![1024, 128]⟩
abbrev S1024x1 : Shape := ⟨2, ![1024, 1]⟩
abbrev S1024x4096 : Shape := ⟨2, ![1024, 4096]⟩
abbrev S1024x384 : Shape := ⟨2, ![1024, 384]⟩
abbrev S1024 : Shape := ⟨1, ![1024]⟩

abbrev nBuf : Space → Nat
  | .hbm => 14
  | .vmem => 12
  | .smem => 0
  | _ => 0

abbrev bufTy : (tb : Table) → Fin (tcTables nBuf tb) → BufTy
  | .hbm, ⟨0, _⟩ => ⟨S4096x64, .f32⟩
  | .hbm, ⟨1, _⟩ => ⟨S4096x3, .f32⟩
  | .hbm, ⟨2, _⟩ => ⟨S4096, .i32⟩
  | .hbm, ⟨3, _⟩ => ⟨S8192x64, .f32⟩
  | .hbm, ⟨4, _⟩ => ⟨S8192x3, .f32⟩
  | .hbm, ⟨5, _⟩ => ⟨S8192, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S3x4096, .f32⟩
  | .hbm, ⟨11, _⟩ => ⟨S1x128, .f32⟩
  | .hbm, ⟨12, _⟩ => ⟨S1x128, .f32⟩
  | .hbm, ⟨13, _⟩ => ⟨S8192x128, .f32⟩
  | .local _ .vmem, ⟨0, _⟩ => ⟨S3x4096, .f32⟩
  | .local _ .vmem, ⟨1, _⟩ => ⟨S1024x3, .f32⟩
  | .local _ .vmem, ⟨2, _⟩ => ⟨S1024x3, .f32⟩
  | .local _ .vmem, ⟨3, _⟩ => ⟨S4096x64, .f32⟩
  | .local _ .vmem, ⟨4, _⟩ => ⟨S1024x64, .f32⟩
  | .local _ .vmem, ⟨5, _⟩ => ⟨S1024x64, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x64 : Shape := ⟨2, ![4096, 64]⟩
abbrev S4096x3 : Shape := ⟨2, ![4096, 3]⟩
abbrev S4096 : Shape := ⟨1, ![4096]⟩
abbrev S8192x64 : Shape := ⟨2, ![8192, 64]⟩
abbrev S8192x3 : Shape := ⟨2, ![8192, 3]⟩
abbrev S8192 : Shape := ⟨1, ![8192]⟩
abbrev S128x128 : Shape := ⟨2, ![128, 128]⟩
abbrev S128 : Shape := ⟨1, ![128]⟩
abbrev S8192x1x3 : Shape := ⟨3, ![8192, 1, 3]⟩
abbrev S1x4096x3 : Shape := ⟨3, ![1, 4096, 3]⟩
abbrev S8192x4096x3 : Shape := ⟨3, ![8192, 4096, 3]⟩
abbrev S_ : Shape := ⟨0, ![]⟩
abbrev S8192x4096 : Shape := ⟨2, ![8192, 4096]⟩
abbrev S8192x1 : Shape := ⟨2, ![8192, 1]⟩
abbrev S1x4096 : Shape := ⟨2, ![1, 4096]⟩
abbrev S8192x3x1 : Shape := ⟨3, ![8192, 3, 1]⟩
abbrev S1 : Shape := ⟨1, ![1]⟩
abbrev S1x1x1 : Shape := ⟨3, ![1, 1, 1]⟩
abbrev S8192x3x64 : Shape := ⟨3, ![8192, 3, 64]⟩
abbrev S8192x128 : Shape := ⟨2, ![8192, 128]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x3, .f32⟩
  | .hbm, ⟨2, _⟩ => ⟨S4096, .i32⟩
  | .hbm, ⟨3, _⟩ => ⟨S8192x64, .f32⟩
  | .hbm, ⟨4, _⟩ => ⟨S8192x3, .f32⟩
  | .hbm, ⟨5, _⟩ => ⟨S8192, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S8192x1x3, .f32⟩
  | .hbm, ⟨11, _⟩ => ⟨S1x4096x3, .f32⟩
  | .hbm, ⟨12, _⟩ => ⟨S8192x4096x3, .f32⟩
  | .hbm, ⟨13, _⟩ => ⟨S8192x4096x3, .f32⟩
  | .hbm, ⟨14, _⟩ => ⟨S8192x4096x3, .f32⟩
  | .hbm, ⟨15, _⟩ => ⟨S8192x4096x3, .f32⟩
  | .hbm, ⟨16, _⟩ => ⟨S_, .f32⟩
  | .hbm, ⟨17, _⟩ => ⟨S8192x4096, .f32⟩
  | .hbm, ⟨18, _⟩ => ⟨S8192x1, .i32⟩
  | .hbm, ⟨19, _⟩ => ⟨S1x4096, .i32⟩
  | .hbm, ⟨20, _⟩ => ⟨S8192x4096, .i32⟩
  | .hbm, ⟨21, _⟩ => ⟨S8192x4096, .i32⟩
  | .hbm, ⟨22, _⟩ => ⟨S8192x4096, .i1⟩
  | .hbm, ⟨23, _⟩ => ⟨S_, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x3, .f32⟩
  | .hbm, ⟨32, _⟩ => ⟨S8192x3, .i32⟩
  | .hbm, ⟨33, _⟩ => ⟨S8192x3, .f32⟩
  | .hbm, ⟨34, _⟩ => ⟨S_, .f32⟩
  | .hbm, ⟨35, _⟩ => ⟨S8192x3, .f32⟩
  | .hbm, ⟨36, _⟩ => ⟨S8192x3, .f32⟩
  | .hbm, ⟨37, _⟩ => ⟨S_, .f32⟩
  | .hbm, ⟨38, _⟩ => ⟨S8192x3, .f32⟩
  | .hbm, ⟨39, _⟩ => ⟨S8192x3, .f32⟩
  | .hbm, ⟨40, _⟩ => ⟨S_, .i32⟩
  | .hbm, ⟨41, _⟩ => ⟨S8192x3, .i32⟩
  | .hbm, ⟨42, _⟩ => ⟨S8192x3, .i1⟩
  | .hbm, ⟨43, _⟩ => ⟨S_, .i32⟩
  | .hbm, ⟨44, _⟩ => ⟨S8192x3, .i32⟩
  | .hbm, ⟨45, _⟩ => ⟨S8192x3, .i32⟩
  | .hbm, ⟨46, _⟩ => ⟨S8192x3, .i32⟩
  | .hbm, ⟨47, _⟩ => ⟨S8192x3x1, .i32⟩
  | .hbm, ⟨48, _⟩ => ⟨S1, .i32⟩
  | .hbm, ⟨49, _⟩ => ⟨S_, .i32⟩
  | .hbm, ⟨50, _⟩ => ⟨S8192x3x1, .i32⟩
  | .hbm, ⟨51, _⟩ => ⟨S8192x3x1, .i1⟩
  | .hbm, ⟨52, _⟩ => ⟨S1x1x1, .i32⟩
  | .hbm, ⟨53, _⟩ => ⟨S8192x3x1, .i32⟩
  | .hbm, ⟨54, _⟩ => ⟨S8192x3x1, .i1⟩
  | .hbm, ⟨55, _⟩ => ⟨S8192x3x1, .i1⟩
  | .hbm, ⟨56, _⟩ => ⟨S_, .i1⟩
  | .hbm, ⟨57, _⟩ => ⟨S8192x3, .i1⟩
  | .hbm, ⟨58, _⟩ => ⟨S8192x3x64, .f32⟩
  | .hbm, ⟨59, _⟩ => ⟨S8192x3x64, .i1⟩
  | .hbm, ⟨60, _⟩ => ⟨S_, .f32⟩
  | .hbm, ⟨61, _⟩ => ⟨S8192x3x64, .f32⟩
  | .hbm, ⟨62, _⟩ => ⟨S8192x3x64, .f32⟩
  | .hbm, ⟨63, _⟩ => ⟨S8192x3x1, .f32⟩
  | .hbm, ⟨64, _⟩ => ⟨S8192x3x64, .f32⟩
  | .hbm, ⟨65, _⟩ => ⟨S8192x3x64, .f32⟩
  | .hbm, ⟨66, _⟩ => ⟨S_, .f32⟩
  | .hbm, ⟨67, _⟩ => ⟨S8192x64, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S8192x64, .f32⟩
  | .hbm, ⟨72, _⟩ => ⟨S8192x64, .f32⟩
  | .hbm, ⟨73, _⟩ => ⟨S8192x128, .f32⟩
  | .hbm, ⟨74, _⟩ => ⟨S8192x128, .f32⟩
  | .hbm, ⟨75, _⟩ => ⟨S1x128, .f32⟩
  | .hbm, ⟨76, _⟩ => ⟨S8192x128, .f32⟩
  | .hbm, ⟨77, _⟩ => ⟨S8192x128, .f32⟩
  | .hbm, ⟨78, _⟩ => ⟨S_, .f32⟩
  | .hbm, ⟨79, _⟩ => ⟨S8192x128, .f32⟩
  | .hbm, ⟨80, _⟩ => ⟨S8192x128, .f32⟩
  | .hbm, ⟨81, _⟩ => ⟨S8192x128, .f32⟩
  | .hbm, ⟨82, _⟩ => ⟨S1x128, .f32⟩
  | .hbm, ⟨83, _⟩ => ⟨S8192x128, .f32⟩
  | .hbm, ⟨84, _⟩ => ⟨S8192x128, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_values : Ref sig .tc := ⟨.hbm, 31, rfl⟩
abbrev main_indices : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_cst_4 : Ref sig .tc := ⟨.hbm, 66, rfl⟩
abbrev main_v25 : Ref sig .tc := ⟨.hbm, 67, rfl⟩
abbrev main_cst_5 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_cst_6 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩

abbrev nD : Nat := 1
abbrev τ : Topo := Topo.v7x

variable {F : FTy → Type} [FloatOps F]
-- ==== Proof.Columns.lean ====
/-
  The kernel's body, group by group.

  The body works on the 4096 coarse points in 32 groups of 128 lanes. For each group it computes the squared distances of
  the block's 1024 fine points to the group's 128 coarse points (`col`), and it keeps, lane by lane, the three least
  distances seen so far (`least1`, `least2`, `least3`). This file says so of the printed payloads: the wide array of all
  the distances is the groups' columns side by side, and the array of candidates is the three least of every lane after
  the last group, side by side. Both are the same expressions with the repeated parts named, so nothing is computed here.
-/
module

public import proofs.«01_k».proof.Proof.Gen.KernelIdeal.Frame
public import Idealize.ShloMosaic.Lib.Pipeline.Value

@[expose] public section

noncomputable section

namespace Cert.KernelIdeal.Block

open Cert.KernelIdeal Cert.KernelIdeal.Gen Idealize.ShloMosaic

variable {F : FTy → Type} [FloatOps F]

/-- The 128 lanes of group `g` in row `c` of the transposed coarse points lie inside the array. -/
theorem inb_group (c : Fin 3) (g : Fin 32) :
    ∀ a : Fin S3x4096.rank, (![c.val, 128 * g.val] : Fin 2 → Nat) a + S1x128.size a ≤ S3x4096.size a := by
  intro a
  match a with
  | ⟨0, _⟩ => show c.val + 1 ≤ 3; omega
  | ⟨1, _⟩ => show 128 * g.val + 128 ≤ 4096; omega

/-- Coordinate `c` of the coarse points of group `g`. -/
def lanes (x0 : Vec F S3x4096 .f32) (c : Fin 3) (g : Fin 32) : Vec F S1x128 .f32 :=
  View.ld x0 (Rect.unit (s := S3x4096) ![c.val, 128 * g.val] S1x128.size (inb_group c g))

/-- Coordinate by coordinate, the fine points minus the coarse points of one group. -/
def gap (p : Vec F S1024x1 .f32) (q : Vec F S1x128 .f32) : FVec F S1024x128 .f32 :=
  subf (broadcastTo S1024x128 p broadcasts_S1024x1_S1024x128)
    (broadcastTo S1024x128 (shapeCast S1x128 q shapeCasts_S1x128_S1x128) broadcasts_S1x128_S1024x128)

/-- The squared distances of the block's fine points to the coarse points of group `g`. -/
def col (x0 : Vec F S3x4096 .f32) (x1 : Vec F S1024x3 .f32) (g : Fin 32) : FVec F S1024x128 .f32 :=
  addf (addf (mulf (gap (View.ld x1 r0_0) (lanes x0 0 g)) (gap (View.ld x1 r0_0) (lanes x0 0 g)))
      (mulf (gap (View.ld x1 r0_1) (lanes x0 1 g)) (gap (View.ld x1 r0_1) (lanes x0 1 g))))
    (mulf (gap (View.ld x1 r0_2) (lanes x0 2 g)) (gap (View.ld x1 r0_2) (lanes x0 2 g)))

/-- The infinity every running minimum starts from. -/
def start : FVec F S1024x128 .f32 := broadcast S1024x128 (Scalar.ofBits .f32 0x7F800000#32)

/-- Lane by lane, the least of the first groups' distances. -/
def least1 (x0 : Vec F S3x4096 .f32) (x1 : Vec F S1024x3 .f32) : Nat → FVec F S1024x128 .f32
  | 0 => start
  | n + 1 => minimumf (least1 x0 x1 n) (col x0 x1 (Fin.ofNat 32 n))

/-- Lane by lane, the second least of the first groups' distances. -/
def least2 (x0 : Vec F S3x4096 .f32) (x1 : Vec F S1024x3 .f32) : Nat → FVec F S1024x128 .f32
  | 0 => start
  | n + 1 => minimumf (least2 x0 x1 n) (maximumf (least1 x0 x1 n) (col x0 x1 (Fin.ofNat 32 n)))

/-- Lane by lane, the third least of the first groups' distances. -/
def least3 (x0 : Vec F S3x4096 .f32) (x1 : Vec F S1024x3 .f32) : Nat → FVec F S1024x128 .f32
  | 0 => start
  | n + 1 => minimumf (least3 x0 x1 n)
      (maximumf (least2 x0 x1 n) (maximumf (least1 x0 x1 n) (col x0 x1 (Fin.ofNat 32 n))))

variable (x0 : Vec F S3x4096 .f32) (x1 : Vec F S1024x3 .f32) (x2 : Vec F S4096x64 .f32) (x3 : Vec F S1024x64 .f32)
  (x4 : Vec F S128x128 .f32) (x5 : Vec F S1x128 .f32) (x6 : Vec F S128x128 .f32) (x7 : Vec F S1x128 .f32)

/-- The array of candidates: the three least of every lane after the last group, side by side. -/
def candidates : FVec F S1024x384 .f32 :=
  concatenate S1024x384 1
    (List.ofFn fun i : Fin 3 => (⟨S1024x128, ![least1 x0 x1 32, least2 x0 x1 32, least3 x0 x1 32] i⟩ : (s : Shape) × (s.Idx → F .f32)))
    concatenates_S1024x128_S1024x128_S1024x128_S1024x384_d1

/-- The candidates the body goes on with are the lanes' three least. -/
theorem candidates_eq : k0_pay240 x0 x1 x2 x3 x4 x5 x6 x7 = candidates x0 x1 := rfl

/-- The columns of all the groups, side by side. -/
def columns (f : Fin 32 → FVec F S1024x128 .f32) : FVec F S1024x4096 .f32 :=
  concatenate S1024x4096 1 (List.ofFn fun g : Fin 32 => (⟨S1024x128, f g⟩ : (s : Shape) × (s.Idx → F .f32)))
    concatenates_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x128_S1024x4096_d1

/-- The array of all the distances is the groups' columns side by side. -/
theorem columns_eq : k0_pay239 x0 x1 x2 x3 x4 x5 x6 x7 = columns (col x0 x1) := rfl

/-! ## The candidates' least, where they take it, and how many do -/

/-- The least candidate of every row. -/
def leastOf (C : FVec F S1024x384 .f32) : FVec F S1024x1 .f32 :=
  shapeCast S1024x1 (multiReduction .minimumf [1] S1024 C 0x7F800000#32 reduces_S1024x384_S1024 (.inl rfl) rfl)
    shapeCasts_S1024_S1024x1

/-- Where a row's candidates equal their least. -/
def atLeast (C : FVec F S1024x384 .f32) : IVec S1024x384 1 :=
  cmpf .oeq C (broadcastTo S1024x384 (leastOf C) broadcasts_S1024x1_S1024x384)

/-- How many of a row's candidates equal their least. -/
def countOf (C : FVec F S1024x384 .f32) : FVec F S1024x1 .f32 :=
  shapeCast S1024x1
    (multiReduction .add [1] S1024
      (select (atLeast C) (broadcast S1024x384 (Scalar.ofBits .f32 0x3F800000#32) : FVec F S1024x384 .f32)
        (broadcast S1024x384 (Scalar.ofBits .f32 0x00000000#32)))
      0x00000000#32 reduces_S1024x384_S1024 (.inl rfl) rfl)
    shapeCasts_S1024_S1024x1

theorem leastOf_eq : k0_pay241 x0 x1 x2 x3 x4 x5 x6 x7 = leastOf (candidates x0 x1) := rfl
theorem atLeast_eq : k0_pay242 x0 x1 x2 x3 x4 x5 x6 x7 = atLeast (candidates x0 x1) := rfl
theorem countOf_eq : k0_pay243 x0 x1 x2 x3 x4 x5 x6 x7 = countOf (candidates x0 x1) := rfl

/-- The body's result from the distances and the candidates: the rest of the kernel. -/
def result (D : FVec F S1024x4096 .f32) (C : FVec F S1024x384 .f32) (x2 : Vec F S4096x64 .f32) (x3 : Vec F S1024x64 .f32)
    (x4 : Vec F S128x128 .f32) (x5 : Vec F S1x128 .f32) (x6 : Vec F S128x128 .f32) (x7 : Vec F S1x128 .f32) :
    FVec F S1024x128 .f32 :=
  k0_pay178 D (k0_pay176 C (leastOf C) (atLeast C) (countOf C) (Scalar.ofBits .f32 0x7F800000#32))
    (k0_pay177 D C (leastOf C) (atLeast C) (countOf C) (Scalar.ofBits .f32 0x7F800000#32)) x2 x3 x4 x5 x6 x7

theorem hz : (![0, 0] : Fin 2 → Nat) = fun _ => 0 := funext fun a => by fin_cases a <;> rfl

/-- The output window's buffer after the body: the result of the columns and the candidates. -/
theorem out_eq : out0_8 x0 x1 x2 x3 x4 x5 x6 x7 = result (columns (col x0 x1)) (candidates x0 x1) x2 x3 x4 x5 x6 x7 := by
  unfold out0_8
  rw [View.canon_unit_zero hz, View.ld_unit_zero hz, View.ld_unit_zero hz, View.ld_unit_zero hz, View.ld_unit_zero hz,
    View.ld_unit_zero hz, View.ld_unit_zero hz, columns_eq, candidates_eq, leastOf_eq, atLeast_eq, countOf_eq]
  rfl

end Cert.KernelIdeal.Block

end
-- ==== Proof.Select.lean ====
/-
  Selecting the three least of a row of candidates by value.

  The body never looks for positions. It takes the least candidate and counts how many candidates equal it, puts infinity
  in their places, and does the same again, and takes the least of what then remains. From the three values and the two
  counts it computes a threshold (the third least value, ties counted) and the sum of the reciprocals of the three least
  values. This file states that computation on a row of extended reals and proves what it gives when three positions of the
  row hold the values `t₁ ≤ t₂ ≤ t₃ < ⊤` and every other position holds more: the threshold is `t₃` and the sum is
  `1/t₁ + 1/t₂ + 1/t₃`. The four cases are the four ways the three values can tie.
-/
module

public import Idealize.ShloMosaic.Lib.Pointwise

@[expose] public section

noncomputable section

namespace Cert.Select

open Idealize.ShloMosaic

variable {n : Nat}

/-- The least value of a row. -/
def low (C : Fin n → EReal) : EReal := Finset.univ.fold min ⊤ C

/-- How many positions of a row hold its least value. -/
def ties (C : Fin n → EReal) : EReal := ∑ k, if C k = low C then 1 else 0

/-- The row with infinity where it held its least value. -/
def drop (C : Fin n → EReal) (k : Fin n) : EReal := if C k = low C then ⊤ else C k

/-- The third least value, ties counted. -/
def threshold (C : Fin n → EReal) : EReal :=
  if 3 ≤ ties C then low C else if 3 ≤ ties C + ties (drop C) then low (drop C) else low (drop (drop C))

/-- The sum of the reciprocals of the three least values. -/
def weight (C : Fin n → EReal) : EReal :=
  min (ties C) 3 * Ideal.div 1 (low C) + min (ties (drop C)) (max 0 (3 - ties C)) * Ideal.div 1 (low (drop C))
    + (3 - min (ties C) 3 - min (ties (drop C)) (max 0 (3 - ties C))) * Ideal.div 1 (low (drop (drop C)))

/-! ## One step -/

/-- A value held somewhere and exceeded everywhere else is the least. -/
theorem low_eq {C : Fin n → EReal} {S : Finset (Fin n)} {v : EReal} (hS : S.Nonempty) (hv : ∀ k ∈ S, C k = v)
    (ho : ∀ k ∉ S, v < C k) : low C = v := by
  obtain ⟨k, hk⟩ := hS
  apply le_antisymm
  · exact (Finset.fold_min_le (c := v)).2 (.inr ⟨k, Finset.mem_univ k, (hv k hk).le⟩)
  · refine (Finset.le_fold_min (c := v)).2 ⟨le_top, fun j _ => ?_⟩
    by_cases hj : j ∈ S
    · exact (hv j hj).ge
    · exact (ho j hj).le

/-- It is held exactly there. -/
theorem at_low_iff {C : Fin n → EReal} {S : Finset (Fin n)} {v : EReal} (hS : S.Nonempty) (hv : ∀ k ∈ S, C k = v)
    (ho : ∀ k ∉ S, v < C k) (k : Fin n) : C k = low C ↔ k ∈ S := by
  rw [low_eq hS hv ho]
  refine ⟨fun h => ?_, hv k⟩
  by_contra hk
  exact (ho k hk).ne' h

/-- So the count is the number of those positions. -/
theorem ties_eq {C : Fin n → EReal} {S : Finset (Fin n)} {v : EReal} (hS : S.Nonempty) (hv : ∀ k ∈ S, C k = v)
    (ho : ∀ k ∉ S, v < C k) : ties C = (S.card : EReal) := by
  simp only [ties, at_low_iff hS hv ho]
  rw [Finset.sum_ite_mem, Finset.univ_inter, Finset.sum_const, EReal.nsmul_eq_mul, mul_one]

/-- And the next row has infinity exactly there. -/
theorem drop_eq {C : Fin n → EReal} {S : Finset (Fin n)} {v : EReal} (hS : S.Nonempty) (hv : ∀ k ∈ S, C k = v)
    (ho : ∀ k ∉ S, v < C k) (k : Fin n) : drop C k = if k ∈ S then ⊤ else C k := by
  simp only [drop, at_low_iff hS hv ho]

/-- A count is not negative. -/
theorem ties_nonneg (C : Fin n → EReal) : 0 ≤ ties C :=
  Finset.sum_nonneg fun k _ => by split <;> simp

/-! ## Small numbers among the extended reals -/

theorem two_mul' {x : EReal} : (2 : EReal) * x = x + x := by
  rcases x with _ | _ | x
  · exact EReal.coe_mul_bot_of_pos (x := 2) (by norm_num)
  · exact EReal.coe_mul_top_of_pos (x := 2) (by norm_num)
  · show ((2 : ℝ) : EReal) * (x : EReal) = x + x
    norm_cast; ring

theorem three_mul' {x : EReal} : (3 : EReal) * x = x + x + x := by
  rcases x with _ | _ | x
  · exact EReal.coe_mul_bot_of_pos (x := 3) (by norm_num)
  · exact EReal.coe_mul_top_of_pos (x := 3) (by norm_num)
  · show ((3 : ℝ) : EReal) * (x : EReal) = x + x + x
    norm_cast; ring

theorem sub_33 : (3 : EReal) - 3 = 0 := by
  show ((3 : ℝ) : EReal) - ((3 : ℝ) : EReal) = ((0 : ℝ) : EReal); norm_cast
theorem sub_32 : (3 : EReal) - 2 = 1 := by
  show ((3 : ℝ) : EReal) - ((2 : ℝ) : EReal) = ((1 : ℝ) : EReal); norm_cast
theorem sub_31 : (3 : EReal) - 1 = 2 := by
  show ((3 : ℝ) : EReal) - ((1 : ℝ) : EReal) = ((2 : ℝ) : EReal); norm_cast
theorem sub_22 : (2 : EReal) - 2 = 0 := by
  show ((2 : ℝ) : EReal) - ((2 : ℝ) : EReal) = ((0 : ℝ) : EReal); norm_cast
theorem sub_21 : (2 : EReal) - 1 = 1 := by
  show ((2 : ℝ) : EReal) - ((1 : ℝ) : EReal) = ((1 : ℝ) : EReal); norm_cast
theorem sub_11 : (1 : EReal) - 1 = 0 := by
  show ((1 : ℝ) : EReal) - ((1 : ℝ) : EReal) = ((0 : ℝ) : EReal); norm_cast
theorem add_12 : (1 : EReal) + 2 = 3 := by
  show ((1 : ℝ) : EReal) + ((2 : ℝ) : EReal) = ((3 : ℝ) : EReal); norm_cast
theorem add_21 : (2 : EReal) + 1 = 3 := by rw [add_comm, add_12]
theorem add_11 : (1 : EReal) + 1 = 2 := by
  show ((1 : ℝ) : EReal) + ((1 : ℝ) : EReal) = ((2 : ℝ) : EReal); norm_cast
theorem lt_23 : (2 : EReal) < 3 := by
  show ((2 : ℝ) : EReal) < ((3 : ℝ) : EReal); norm_cast
theorem lt_13 : (1 : EReal) < 3 := by
  show ((1 : ℝ) : EReal) < ((3 : ℝ) : EReal); norm_cast
theorem lt_12 : (1 : EReal) < 2 := by
  show ((1 : ℝ) : EReal) < ((2 : ℝ) : EReal); norm_cast
theorem lt_02 : (0 : EReal) < 2 := by
  show ((0 : ℝ) : EReal) < ((2 : ℝ) : EReal); norm_cast
theorem lt_01 : (0 : EReal) < 1 := by
  show ((0 : ℝ) : EReal) < ((1 : ℝ) : EReal); norm_cast

/-! ## The selection -/

/-- The three least of a row: three positions hold them in order, and every other position holds more than the third. -/
structure Least3 (C : Fin n → EReal) (t₁ t₂ t₃ : EReal) : Prop where
  le₁₂ : t₁ ≤ t₂
  le₂₃ : t₂ ≤ t₃
  lt_top : t₃ < ⊤
  held : ∃ k₁ k₂ k₃ : Fin n, k₁ ≠ k₂ ∧ k₁ ≠ k₃ ∧ k₂ ≠ k₃ ∧ C k₁ = t₁ ∧ C k₂ = t₂ ∧ C k₃ = t₃
    ∧ ∀ k, k ≠ k₁ → k ≠ k₂ → k ≠ k₃ → t₃ < C k

theorem threshold_weight {C : Fin n → EReal} {t₁ t₂ t₃ : EReal} (h : Least3 C t₁ t₂ t₃) :
    threshold C = t₃ ∧ weight C = Ideal.div 1 t₁ + Ideal.div 1 t₂ + Ideal.div 1 t₃ := by
  obtain ⟨h12, h23, htop, k₁, k₂, k₃, n12, n13, n23, e1, e2, e3, ho⟩ := h
  rcases h12.eq_or_lt with q12 | q12 <;> rcases h23.eq_or_lt with q23 | q23
  · -- all three tie
    have hne : ({k₁, k₂, k₃} : Finset (Fin n)).Nonempty := ⟨k₁, by simp⟩
    have hv : ∀ k ∈ ({k₁, k₂, k₃} : Finset (Fin n)), C k = t₁ := by
      intro k hk; simp only [Finset.mem_insert, Finset.mem_singleton] at hk
      rcases hk with rfl | rfl | rfl
      exacts [e1, e2.trans q12.symm, e3.trans (q12.trans q23).symm]
    have hn : ∀ k ∉ ({k₁, k₂, k₃} : Finset (Fin n)), t₁ < C k := by
      intro k hk; simp only [Finset.mem_insert, Finset.mem_singleton, not_or] at hk
      exact (q12.trans q23).trans_lt (ho k hk.1 hk.2.1 hk.2.2)
    have c1 : ties C = 3 := by
      rw [ties_eq hne hv hn, Finset.card_eq_three.2 ⟨k₁, k₂, k₃, n12, n13, n23, rfl⟩]; rfl
    have m1 := low_eq hne hv hn
    constructor
    · simp only [threshold, c1, m1, le_refl, if_true]; exact q12.trans q23
    · simp only [weight, c1, m1, min_self, sub_33, max_self, min_eq_right (ties_nonneg _), zero_mul, add_zero, sub_zero,
        three_mul', ← q23, ← q12]
  · -- the first two tie
    have hne : ({k₁, k₂} : Finset (Fin n)).Nonempty := ⟨k₁, by simp⟩
    have hv : ∀ k ∈ ({k₁, k₂} : Finset (Fin n)), C k = t₁ := by
      intro k hk; simp only [Finset.mem_insert, Finset.mem_singleton] at hk
      rcases hk with rfl | rfl
      exacts [e1, e2.trans q12.symm]
    have hn : ∀ k ∉ ({k₁, k₂} : Finset (Fin n)), t₁ < C k := by
      intro k hk; simp only [Finset.mem_insert, Finset.mem_singleton, not_or] at hk
      by_cases hk3 : k = k₃
      · rw [hk3, e3]; exact q12.trans_lt q23
      · exact (q12.trans_lt q23).trans (ho k hk.1 hk.2 hk3)
    have c1 : ties C = 2 := by
      rw [ties_eq hne hv hn, Finset.card_eq_two.2 ⟨k₁, k₂, n12, rfl⟩]; rfl
    have m1 := low_eq hne hv hn
    have hne2 : ({k₃} : Finset (Fin n)).Nonempty := ⟨k₃, by simp⟩
    have hv2 : ∀ k ∈ ({k₃} : Finset (Fin n)), drop C k = t₃ := by
      intro k hk; rw [Finset.mem_singleton.1 hk, drop_eq hne hv hn, if_neg, e3]
      simp [n13.symm, n23.symm]
    have hn2 : ∀ k ∉ ({k₃} : Finset (Fin n)), t₃ < drop C k := by
      intro k hk; rw [drop_eq hne hv hn]
      split
      · exact htop
      · rename_i h; simp only [Finset.mem_insert, Finset.mem_singleton, not_or] at h hk
        exact ho k h.1 h.2 hk
    have c2 : ties (drop C) = 1 := by rw [ties_eq hne2 hv2 hn2, Finset.card_singleton, Nat.cast_one]
    have m2 := low_eq hne2 hv2 hn2
    constructor
    · simp only [threshold, c1, c2, m1, m2, add_21, le_refl, if_true, if_neg lt_23.not_ge]
    · simp only [weight, c1, c2, m1, m2, min_eq_left lt_23.le, sub_32, max_eq_right lt_01.le, min_self, sub_11, zero_mul,
        add_zero, two_mul', one_mul, ← q12]
  · -- the last two tie
    have hne : ({k₁} : Finset (Fin n)).Nonempty := ⟨k₁, by simp⟩
    have hv : ∀ k ∈ ({k₁} : Finset (Fin n)), C k = t₁ := by
      intro k hk; rw [Finset.mem_singleton.1 hk, e1]
    have hn : ∀ k ∉ ({k₁} : Finset (Fin n)), t₁ < C k := by
      intro k hk; rw [Finset.mem_singleton] at hk
      by_cases hk2 : k = k₂
      · rw [hk2, e2]; exact q12
      by_cases hk3 : k = k₃
      · rw [hk3, e3]; exact q12.trans_eq q23
      · exact (q12.trans_eq q23).trans (ho k hk hk2 hk3)
    have c1 : ties C = 1 := by rw [ties_eq hne hv hn, Finset.card_singleton, Nat.cast_one]
    have m1 := low_eq hne hv hn
    have hne2 : ({k₂, k₃} : Finset (Fin n)).Nonempty := ⟨k₂, by simp⟩
    have hv2 : ∀ k ∈ ({k₂, k₃} : Finset (Fin n)), drop C k = t₃ := by
      intro k hk; rw [drop_eq hne hv hn]
      simp only [Finset.mem_insert, Finset.mem_singleton] at hk ⊢
      rcases hk with rfl | rfl
      · rw [if_neg n12.symm, e2, q23]
      · rw [if_neg n13.symm, e3]
    have hn2 : ∀ k ∉ ({k₂, k₃} : Finset (Fin n)), t₃ < drop C k := by
      intro k hk; rw [drop_eq hne hv hn]
      split
      · exact htop
      · rename_i h; simp only [Finset.mem_insert, Finset.mem_singleton, not_or] at h hk
        exact ho k h hk.1 hk.2
    have c2 : ties (drop C) = 2 := by
      rw [ties_eq hne2 hv2 hn2, Finset.card_eq_two.2 ⟨k₂, k₃, n23, rfl⟩]; rfl
    have m2 := low_eq hne2 hv2 hn2
    constructor
    · simp only [threshold, c1, c2, m1, m2, add_12, le_refl, if_true, if_neg lt_13.not_ge]
    · simp only [weight, c1, c2, m1, m2, min_eq_left lt_13.le, sub_31, max_eq_right lt_02.le, min_self, sub_22, zero_mul,
        add_zero, two_mul', one_mul, q23, add_assoc]
  · -- no two tie
    have hne : ({k₁} : Finset (Fin n)).Nonempty := ⟨k₁, by simp⟩
    have hv : ∀ k ∈ ({k₁} : Finset (Fin n)), C k = t₁ := by
      intro k hk; rw [Finset.mem_singleton.1 hk, e1]
    have hn : ∀ k ∉ ({k₁} : Finset (Fin n)), t₁ < C k := by
      intro k hk; rw [Finset.mem_singleton] at hk
      by_cases hk2 : k = k₂
      · rw [hk2, e2]; exact q12
      by_cases hk3 : k = k₃
      · rw [hk3, e3]; exact q12.trans q23
      · exact (q12.trans q23).trans (ho k hk hk2 hk3)
    have c1 : ties C = 1 := by rw [ties_eq hne hv hn, Finset.card_singleton, Nat.cast_one]
    have m1 := low_eq hne hv hn
    have hne2 : ({k₂} : Finset (Fin n)).Nonempty := ⟨k₂, by simp⟩
    have hv2 : ∀ k ∈ ({k₂} : Finset (Fin n)), drop C k = t₂ := by
      intro k hk; rw [Finset.mem_singleton.1 hk, drop_eq hne hv hn, if_neg (by simpa using n12.symm), e2]
    have hn2 : ∀ k ∉ ({k₂} : Finset (Fin n)), t₂ < drop C k := by
      intro k hk; rw [drop_eq hne hv hn]
      split
      · exact q23.trans htop
      · rename_i h; rw [Finset.mem_singleton] at h hk
        by_cases hk3 : k = k₃
        · rw [hk3, e3]; exact q23
        · exact q23.trans (ho k h hk hk3)
    have c2 : ties (drop C) = 1 := by rw [ties_eq hne2 hv2 hn2, Finset.card_singleton, Nat.cast_one]
    have m2 := low_eq hne2 hv2 hn2
    have hne3 : ({k₃} : Finset (Fin n)).Nonempty := ⟨k₃, by simp⟩
    have hv3 : ∀ k ∈ ({k₃} : Finset (Fin n)), drop (drop C) k = t₃ := by
      intro k hk
      rw [Finset.mem_singleton.1 hk, drop_eq hne2 hv2 hn2, if_neg (by simpa using n23.symm), drop_eq hne hv hn,
        if_neg (by simpa using n13.symm), e3]
    have hn3 : ∀ k ∉ ({k₃} : Finset (Fin n)), t₃ < drop (drop C) k := by
      intro k hk; rw [drop_eq hne2 hv2 hn2]
      split
      · exact htop
      · rename_i h; rw [drop_eq hne hv hn]
        split
        · exact htop
        · rename_i h'; rw [Finset.mem_singleton] at h h' hk
          exact ho k h' h hk
    have m3 := low_eq hne3 hv3 hn3
    constructor
    · simp only [threshold, c1, c2, m3, add_11, if_neg lt_13.not_ge, if_neg lt_23.not_ge]
    · simp only [weight, c1, c2, m1, m2, m3, min_eq_left lt_13.le, sub_31, max_eq_right lt_02.le, min_eq_left lt_12.le,
        sub_21, one_mul]

end Cert.Select

end
-- ==== Proof.Lanes.lean ====
/-
  Three values per lane are enough.

  The body does not search a row of 4096 distances. It splits the row into 128 lanes of 32 distances and keeps the three
  least of every lane: the new distance goes through a chain of minima and maxima, each passing on the greater of the two.
  This file proves that the 384 values kept have the same three least as the 4096 distances. The argument counts: for every
  bound `v` below infinity, a lane keeps `min 3 k` values at most `v` when `k` of its distances are at most `v`
  (`kept_count`), and when no more than three distances of the whole row are at most `v` no lane loses one (`count_eq`). That
  three values are the three least of a row can be read off these counts, and the other way round (`count_of_least3`,
  `least3_of_count`).
-/
module

public import proofs.«01_k».proof.Proof.Select

@[expose] public section

noncomputable section

namespace Cert.Select

/-- 1 if a value is within a bound, else 0. -/
def within (a v : EReal) : Nat := if a ≤ v then 1 else 0

/-- How many values of a row are within a bound. -/
def count {n : Nat} (C : Fin n → EReal) (v : EReal) : Nat := ∑ k, within (C k) v

/-! ## Counts and the three least -/

theorem count_of_least3 {n : Nat} {C : Fin n → EReal} {t₁ t₂ t₃ : EReal} (h : Least3 C t₁ t₂ t₃) {v : EReal} (hv : v ≤ t₃) :
    count C v = within t₁ v + within t₂ v + within t₃ v := by
  obtain ⟨-, -, -, k₁, k₂, k₃, n12, n13, n23, e1, e2, e3, ho⟩ := h
  unfold count
  rw [← Finset.sum_subset (Finset.subset_univ ({k₁, k₂, k₃} : Finset (Fin n)))]
  · rw [Finset.sum_insert (by simp [n12, n13]), Finset.sum_insert (by simp [n23]), Finset.sum_singleton, e1, e2, e3,
      add_assoc]
  · intro k _ hk
    simp only [Finset.mem_insert, Finset.mem_singleton, not_or] at hk
    exact if_neg (hv.trans_lt (ho k hk.1 hk.2.1 hk.2.2)).not_ge

theorem least3_of_count {n : Nat} {C : Fin n → EReal} {t₁ t₂ t₃ : EReal} (h12 : t₁ ≤ t₂) (h23 : t₂ ≤ t₃) (htop : t₃ < ⊤)
    (hc : ∀ v ≤ t₃, count C v = within t₁ v + within t₂ v + within t₃ v) : Least3 C t₁ t₂ t₃ := by
  have hS : (Finset.univ.filter fun k => C k ≤ t₃).card = 3 := by
    have := hc t₃ le_rfl
    simp only [count, within, Finset.sum_boole, h12.trans h23, h23, le_refl, if_true] at this
    exact this
  obtain ⟨k₁, s1, l1⟩ := Finset.exists_min_image (Finset.univ.filter fun k => C k ≤ t₃) C (Finset.card_pos.1 (by omega))
  have hS2 := Finset.card_erase_of_mem s1
  obtain ⟨k₂, s2, l2⟩ := Finset.exists_min_image ((Finset.univ.filter fun k => C k ≤ t₃).erase k₁) C
    (Finset.card_pos.1 (by omega))
  have hS3 := Finset.card_erase_of_mem s2
  obtain ⟨k₃, e3⟩ := Finset.card_eq_one.1
    (show (((Finset.univ.filter fun k => C k ≤ t₃).erase k₁).erase k₂).card = 1 by omega)
  have s3 : k₃ ∈ (((Finset.univ.filter fun k => C k ≤ t₃).erase k₁).erase k₂) := by rw [e3]; simp
  have m2 := Finset.mem_erase.1 s2
  have m3 := Finset.mem_erase.1 s3
  have m3' := Finset.mem_erase.1 m3.2
  have c12 : C k₁ ≤ C k₂ := l1 k₂ m2.2
  have c23 : C k₂ ≤ C k₃ := l2 k₃ m3.2
  have b1 : C k₁ ≤ t₃ := (Finset.mem_filter.1 s1).2
  have b2 : C k₂ ≤ t₃ := (Finset.mem_filter.1 m2.2).2
  have b3 : C k₃ ≤ t₃ := (Finset.mem_filter.1 m3'.2).2
  have ho : ∀ k, k ≠ k₁ → k ≠ k₂ → k ≠ k₃ → t₃ < C k := by
    intro k n1 n2 n3
    by_contra hk
    have : k ∈ (((Finset.univ.filter fun k => C k ≤ t₃).erase k₁).erase k₂) :=
      Finset.mem_erase.2 ⟨n2, Finset.mem_erase.2 ⟨n1, Finset.mem_filter.2 ⟨Finset.mem_univ _, not_lt.1 hk⟩⟩⟩
    rw [e3, Finset.mem_singleton] at this
    exact n3 this
  have hC : ∀ v ≤ t₃, within (C k₁) v + within (C k₂) v + within (C k₃) v = within t₁ v + within t₂ v + within t₃ v := by
    intro v hv
    rw [← hc v hv]; unfold count
    rw [← Finset.sum_subset (Finset.subset_univ ({k₁, k₂, k₃} : Finset (Fin n)))]
    · rw [Finset.sum_insert (by simp [m2.1.symm, m3'.1.symm]), Finset.sum_insert (by simp [m3.1.symm]),
        Finset.sum_singleton, add_assoc]
    · intro k _ hk
      simp only [Finset.mem_insert, Finset.mem_singleton, not_or] at hk
      exact if_neg (hv.trans_lt (ho k hk.1 hk.2.1 hk.2.2)).not_ge
  have q1 : C k₁ = t₁ := by
    apply le_antisymm
    · by_contra h
      have := hC t₁ (h12.trans h23)
      simp only [within, le_refl, if_true, if_neg h, if_neg fun h' => h (c12.trans h'),
        if_neg fun h' => h (c12.trans (c23.trans h'))] at this
      omega
    · by_contra h
      have := hC (C k₁) b1
      simp only [within, le_refl, if_true, if_neg h, if_neg fun h' => h (h12.trans h'),
        if_neg fun h' => h (h12.trans (h23.trans h'))] at this
      omega
  have q2 : C k₂ = t₂ := by
    apply le_antisymm
    · by_contra h
      have := hC t₂ h23
      simp only [within, le_refl, if_true, if_neg h, h12, q1, if_neg fun h' => h (c23.trans h')] at this
      omega
    · by_contra h
      have := hC (C k₂) b2
      simp only [within, le_refl, if_true, if_neg h, c12, (q1.symm.le.trans c12 : t₁ ≤ C k₂), if_neg fun h' => h (h23.trans h')] at this
      split at this <;> omega
  have q3 : C k₃ = t₃ := by
    apply le_antisymm b3
    by_contra h
    have := hC (C k₃) b3
    simp only [within, le_refl, if_true, if_neg h, c23, c12.trans c23] at this
    split at this <;> split at this <;> omega
  exact ⟨h12, h23, htop, k₁, k₂, k₃, m2.1.symm, m3'.1.symm, m3.1.symm, q1, q2, q3, ho⟩

/-! ## One lane -/

/-- The least of the first values of a lane. -/
def kept1 (x : Nat → EReal) : Nat → EReal
  | 0 => ⊤
  | n + 1 => min (kept1 x n) (x n)

/-- The second least. -/
def kept2 (x : Nat → EReal) : Nat → EReal
  | 0 => ⊤
  | n + 1 => min (kept2 x n) (max (kept1 x n) (x n))

/-- The third least. -/
def kept3 (x : Nat → EReal) : Nat → EReal
  | 0 => ⊤
  | n + 1 => min (kept3 x n) (max (kept2 x n) (max (kept1 x n) (x n)))

/-- The values a lane keeps are in order. -/
theorem kept_le (x : Nat → EReal) (n : Nat) : kept1 x n ≤ kept2 x n ∧ kept2 x n ≤ kept3 x n := by
  induction n with
  | zero => exact ⟨le_rfl, le_rfl⟩
  | succ n ih =>
    refine ⟨?_, ?_⟩
    · exact le_min ((min_le_left _ _).trans ih.1) ((min_le_left _ _).trans (le_max_left _ _))
    · exact le_min ((min_le_left _ _).trans ih.2) ((min_le_left _ _).trans (le_max_left _ _))

/-- Of the first values within a bound below infinity a lane keeps three, or all of them if they are fewer. -/
theorem kept_count (x : Nat → EReal) {v : EReal} (hv : v < ⊤) (n : Nat) :
    within (kept1 x n) v + within (kept2 x n) v + within (kept3 x n) v = min 3 (∑ g ∈ Finset.range n, within (x g) v) := by
  induction n with
  | zero => simp [within, kept1, kept2, kept3, hv.ne]
  | succ n ih =>
    rw [Finset.sum_range_succ]
    obtain ⟨h12, h23⟩ := kept_le x n
    simp only [within, kept1, kept2, kept3, min_le_iff, max_le_iff] at ih ⊢
    by_cases a : kept1 x n ≤ v <;> by_cases b : kept2 x n ≤ v <;> by_cases c : kept3 x n ≤ v <;> by_cases d : x n ≤ v <;>
      first
      | exact absurd (h12.trans b) a
      | exact absurd (h23.trans c) b
      | (simp only [a, b, c, d, if_true, if_false, or_true, or_false, true_or, false_or, and_true, and_false, true_and, false_and] at ih ⊢; omega)

/-! ## All the lanes -/

theorem lane_lt {a : Nat} (g : Fin a) (l : Fin 128) : 128 * g.val + l.val < a * 128 := by
  have := g.isLt; have := l.isLt; omega

/-- A sum over `a` groups of 128 lanes, lane by lane. -/
theorem sum_lanes {a : Nat} (f : Fin (a * 128) → Nat) : ∑ j, f j = ∑ l : Fin 128, ∑ g : Fin a, f ⟨128 * g.val + l.val, lane_lt g l⟩ := by
  rw [← (finProdFinEquiv (m := a) (n := 128)).sum_comp, Fintype.sum_prod_type, Finset.sum_comm]
  refine Finset.sum_congr rfl fun l _ => Finset.sum_congr rfl fun g _ => congrArg f (Fin.ext ?_)
  show l.val + 128 * g.val = _
  rw [add_comm]

/-- When no more than three distances of the row are within a bound, as many of the values kept are. -/
theorem count_eq {m : Nat} {d : Fin (m * 128) → EReal} {C : Fin (3 * 128) → EReal} (x : Fin 128 → Nat → EReal)
    (hd : ∀ g l, d ⟨128 * g.val + l.val, lane_lt g l⟩ = x l g.val)
    (h1 : ∀ l, C ⟨128 * (0 : Fin 3).val + l.val, lane_lt 0 l⟩ = kept1 (x l) m)
    (h2 : ∀ l, C ⟨128 * (1 : Fin 3).val + l.val, lane_lt 1 l⟩ = kept2 (x l) m)
    (h3 : ∀ l, C ⟨128 * (2 : Fin 3).val + l.val, lane_lt 2 l⟩ = kept3 (x l) m)
    {v : EReal} (hv : v < ⊤) (h : count d v ≤ 3) : count C v = count d v := by
  unfold count at h ⊢
  rw [sum_lanes (a := m) fun j => within (d j) v] at h ⊢
  rw [sum_lanes (a := 3) fun j => within (C j) v]
  refine Finset.sum_congr rfl fun l _ => ?_
  rw [Fin.sum_univ_three, h1, h2, h3, kept_count (x l) hv, Finset.sum_range fun g => within (x l g) v]
  simp only [hd] at h ⊢
  exact min_eq_right ((Finset.single_le_sum (fun _ _ => Nat.zero_le _) (Finset.mem_univ l)).trans h)

/-- So the values kept have the row's three least. -/
theorem least3_kept {m : Nat} {d : Fin (m * 128) → EReal} {C : Fin (3 * 128) → EReal} (x : Fin 128 → Nat → EReal)
    (hd : ∀ g l, d ⟨128 * g.val + l.val, lane_lt g l⟩ = x l g.val)
    (h1 : ∀ l, C ⟨128 * (0 : Fin 3).val + l.val, lane_lt 0 l⟩ = kept1 (x l) m)
    (h2 : ∀ l, C ⟨128 * (1 : Fin 3).val + l.val, lane_lt 1 l⟩ = kept2 (x l) m)
    (h3 : ∀ l, C ⟨128 * (2 : Fin 3).val + l.val, lane_lt 2 l⟩ = kept3 (x l) m)
    {t₁ t₂ t₃ : EReal} (h : Least3 d t₁ t₂ t₃) : Least3 C t₁ t₂ t₃ := by
  refine least3_of_count h.le₁₂ h.le₂₃ h.lt_top fun v hv => ?_
  have hc := count_of_least3 h hv
  rw [← hc]
  refine count_eq x hd h1 h2 h3 (hv.trans_lt h.lt_top) ?_
  rw [hc]; unfold within
  split <;> split <;> split <;> omega

end Cert.Select

end
-- ==== Proof.Row.lean ====
/-
  One row of the result, as plain mathematics.

  A fine point's row depends on its distances to the coarse points, on the coarse features, and on its own features. Here
  are the three formulas both programs are brought to: the squared distance (`sqdist`), the features interpolated from the
  three nearest coarse points (`interp`), and the two dense layers (`layers`). `Near d j₁ j₂ j₃` says which coarse points
  those three are. The kernel takes the weighted sum over all coarse points within the threshold; `masked_sum` says that this
  is the sum over the three.
-/
module

public import proofs.«01_k».proof.Proof.Select

@[expose] public section

noncomputable section

namespace Cert.Row

open Idealize.ShloMosaic

/-- The squared distance of two points. -/
def sqdist (p q : Fin 3 → EReal) : EReal :=
  (p 0 - q 0) * (p 0 - q 0) + (p 1 - q 1) * (p 1 - q 1) + (p 2 - q 2) * (p 2 - q 2)

/-- The coarse points `j₁`, `j₂`, `j₃` are the three nearest, in order: their distances ascend and are below infinity, and
    every other distance is greater. -/
structure Near {n : Nat} (d : Fin n → EReal) (j₁ j₂ j₃ : Fin n) : Prop where
  ne₁₂ : j₁ ≠ j₂
  ne₁₃ : j₁ ≠ j₃
  ne₂₃ : j₂ ≠ j₃
  le₁₂ : d j₁ ≤ d j₂
  le₂₃ : d j₂ ≤ d j₃
  lt_top : d j₃ < ⊤
  others : ∀ j, j ≠ j₁ → j ≠ j₂ → j ≠ j₃ → d j₃ < d j

theorem Near.least3 {n : Nat} {d : Fin n → EReal} {j₁ j₂ j₃ : Fin n} (h : Near d j₁ j₂ j₃) :
    Select.Least3 d (d j₁) (d j₂) (d j₃) :=
  ⟨h.le₁₂, h.le₂₃, h.lt_top, j₁, j₂, j₃, h.ne₁₂, h.ne₁₃, h.ne₂₃, rfl, rfl, rfl, h.others⟩

/-- A sum over the coarse points within the third least distance is the sum over the three nearest. -/
theorem masked_sum {n : Nat} {d : Fin n → EReal} {j₁ j₂ j₃ : Fin n} (h : Near d j₁ j₂ j₃) (w : Fin n → EReal) :
    ∑ j, (if d j ≤ d j₃ then Ideal.div 1 (d j) else 0) * w j
      = Ideal.div 1 (d j₁) * w j₁ + Ideal.div 1 (d j₂) * w j₂ + Ideal.div 1 (d j₃) * w j₃ := by
  rw [← Finset.sum_subset (Finset.subset_univ ({j₁, j₂, j₃} : Finset (Fin n)))]
  · rw [Finset.sum_insert (by simp [h.ne₁₂, h.ne₁₃]), Finset.sum_insert (by simp [h.ne₂₃]), Finset.sum_singleton,
      if_pos (h.le₁₂.trans h.le₂₃), if_pos h.le₂₃, if_pos le_rfl, add_assoc]
  · intro j _ hj
    simp only [Finset.mem_insert, Finset.mem_singleton, not_or] at hj
    rw [if_neg (h.others j hj.1 hj.2.1 hj.2.2).not_ge, zero_mul]

/-- A feature interpolated from three coarse points: the mean weighted by the reciprocal distances. -/
def interp {n : Nat} (d : Fin n → EReal) (j₁ j₂ j₃ : Fin n) (w : Fin n → EReal) : EReal :=
  Ideal.div (Ideal.div 1 (d j₁) * w j₁ + Ideal.div 1 (d j₂) * w j₂ + Ideal.div 1 (d j₃) * w j₃)
    (Ideal.div 1 (d j₁) + Ideal.div 1 (d j₂) + Ideal.div 1 (d j₃))

/-- The two dense layers of a row whose first 64 features are `h` and whose last 64 are `xs`. -/
def layers (h xs : Fin 64 → EReal) (W1 : Fin 128 → Fin 128 → EReal) (b1 : Fin 128 → EReal) (W2 : Fin 128 → Fin 128 → EReal)
    (b2 : Fin 128 → EReal) (f : Fin 128) : EReal :=
  ∑ u, max (∑ k, h k * W1 ⟨k.val, by omega⟩ u + ∑ k, xs k * W1 ⟨64 + k.val, by omega⟩ u + b1 u) 0 * W2 u f + b2 f

end Cert.Row

end
-- ==== Proof.Block.lean ====
/-
  What the kernel's body writes, at an index.

  The body's result for one block of 1024 fine points, read at fine point `r` and feature `f`. The distances of the row are
  the squared distances to the 4096 coarse points, the candidates are the lanes' three least, and the masking, the
  weights and the two dense layers follow. When the row's three nearest coarse points are apart from the others
  (`Near`), the result is the interpolation from these three, put through the two layers (`out_at`).
-/
module

public import proofs.«01_k».proof.Proof.Columns
public import proofs.«01_k».proof.Proof.Lanes
public import proofs.«01_k».proof.Proof.Row
public import Idealize.ShloMosaic.Lib.Pointwise

@[expose] public section

set_option maxRecDepth 16384

noncomputable section

namespace Cert.KernelIdeal.Block

open Cert.KernelIdeal Cert.KernelIdeal.Gen Idealize.ShloMosaic Idealize.ShloMosaic.TcCoe Idealize.SL.Sem

/-- The word of the infinity the minima start from. -/
theorem bits_inf : Ideal.ofBits .f32 0x7F800000#32 = ⊤ := by simp [Ideal.ofBits, Ideal.ieee]

/-- The word of three. -/
theorem bits_three : Ideal.ofBits .f32 0x40400000#32 = 3 := by
  simp only [Ideal.ofBits, Ideal.ieee]
  simp
  rw [← EReal.coe_mul]
  exact congrArg _ (by norm_num : (12582912 : ℝ) * (2 ^ 22)⁻¹ = 3)

/-! ## Reading the pieces put side by side -/

theorem columns_at (f : Fin 32 → FVec Ideal S1024x128 .f32) (r : Fin 1024) (g : Fin 32) (l : Fin 128) :
    columns f (ix2 r ⟨128 * g.val + l.val, Select.lane_lt g l⟩) = f g (ix2 r l) := by
  unfold columns
  refine concatenate_ofFn_apply (t := S1024x4096) 1 f _ rfl 128 rfl _ g ?_ _ ?_ ?_
  · show (128 * g.val + l.val) / 128 = g.val
    have := l.isLt; omega
  · show l.val = (128 * g.val + l.val) % 128
    have := l.isLt; omega
  · intro b hb
    match b with
    | ⟨0, _⟩ => rfl
    | ⟨1, _⟩ => exact absurd rfl hb

variable (x0 : Vec Ideal S3x4096 .f32) (x1 : Vec Ideal S1024x3 .f32)

theorem candidates_at (r : Fin 1024) (i : Fin 3) (l : Fin 128) :
    candidates x0 x1 (ix2 r ⟨128 * i.val + l.val, Select.lane_lt i l⟩)
      = ![least1 x0 x1 32, least2 x0 x1 32, least3 x0 x1 32] i (ix2 r l) := by
  unfold candidates
  refine concatenate_ofFn_apply (t := S1024x384) (s₁ := S1024x128) 1 ![least1 x0 x1 32, least2 x0 x1 32, least3 x0 x1 32] _ rfl 128 rfl _ i ?_ _ ?_ ?_
  · show (128 * i.val + l.val) / 128 = i.val
    have := l.isLt; omega
  · show l.val = (128 * i.val + l.val) % 128
    have := l.isLt; omega
  · intro b hb
    match b with
    | ⟨0, _⟩ => rfl
    | ⟨1, _⟩ => exact absurd rfl hb

/-! ## The distances and the candidates of a row -/

/-- The squared distances of fine point `r` of the block. -/
def dist (r : Fin 1024) (j : Fin 4096) : EReal := Row.sqdist (fun c => x1 (ix2 r c)) (fun c => x0 (ix2 c j))

theorem col_at (g : Fin 32) (r : Fin 1024) (l : Fin 128) :
    col x0 x1 g (ix2 r l) = dist x0 x1 r ⟨128 * g.val + l.val, Select.lane_lt g l⟩ := by
  unfold dist Row.sqdist
  pointwise [col, gap, lanes]

theorem dist_at (r : Fin 1024) (j : Fin 4096) : columns (col x0 x1) (ix2 r j) = dist x0 x1 r j := by
  have e : j = ⟨128 * (j.val / 128) + j.val % 128, by omega⟩ := Fin.ext (by simp only; omega)
  have := columns_at (col x0 x1) r ⟨j.val / 128, by omega⟩ ⟨j.val % 128, by omega⟩
  rw [col_at] at this
  rw [e]; exact this

/-- A lane's distances in order. -/
def lane (r : Fin 1024) (l : Fin 128) (g : Nat) : EReal := col x0 x1 (Fin.ofNat 32 g) (ix2 r l)

theorem least1_at (r : Fin 1024) (l : Fin 128) (n : Nat) : least1 x0 x1 n (ix2 r l) = Select.kept1 (lane x0 x1 r l) n := by
  induction n with
  | zero => exact bits_inf
  | succ n ih => rw [Select.kept1, ← ih]; rfl

theorem least2_at (r : Fin 1024) (l : Fin 128) (n : Nat) : least2 x0 x1 n (ix2 r l) = Select.kept2 (lane x0 x1 r l) n := by
  induction n with
  | zero => exact bits_inf
  | succ n ih => rw [Select.kept2, ← ih, ← least1_at]; rfl

theorem least3_at (r : Fin 1024) (l : Fin 128) (n : Nat) : least3 x0 x1 n (ix2 r l) = Select.kept3 (lane x0 x1 r l) n := by
  induction n with
  | zero => exact bits_inf
  | succ n ih => rw [Select.kept3, ← ih, ← least2_at, ← least1_at]; rfl

/-- The candidates of a row have the three least of its distances. -/
theorem least3_candidates (r : Fin 1024) {t₁ t₂ t₃ : EReal} (h : Select.Least3 (dist x0 x1 r) t₁ t₂ t₃) :
    Select.Least3 (fun k => candidates x0 x1 (ix2 r k)) t₁ t₂ t₃ := by
  refine Select.least3_kept (m := 32) (d := dist x0 x1 r) (C := fun k => candidates x0 x1 (ix2 r k)) (lane x0 x1 r) ?_ ?_ ?_ ?_ h
  · intro g l
    rw [lane, Fin.ofNat_val_eq_self, col_at]
  · intro l; rw [← least1_at]; exact candidates_at x0 x1 r 0 l
  · intro l; rw [← least2_at]; exact candidates_at x0 x1 r 1 l
  · intro l; rw [← least3_at]; exact candidates_at x0 x1 r 2 l

/-! ## The selection of a row -/

variable (C : FVec Ideal S1024x384 .f32)

theorem leastOf_at (r : Fin 1024) : leastOf C (ix2 r 0) = Select.low fun k => C (ix2 r k) := by
  pointwise [leastOf, bits_inf, Select.low]

theorem countOf_at (r : Fin 1024) : countOf C (ix2 r 0) = Select.ties fun k => C (ix2 r k) := by
  pointwise [countOf, atLeast, leastOf_at, Select.ties]

theorem atLeast_at (r : Fin 1024) (k : Fin 384) :
    atLeast C (ix2 r k) = BitVec.ofBool (decide (C (ix2 r k) = Select.low fun k => C (ix2 r k))) := by
  pointwise [atLeast, leastOf_at]

/-- The weights' sum. -/
theorem weight_at (r : Fin 1024) :
    k0_pay176 C (leastOf C) (atLeast C) (countOf C) (Scalar.ofBits .f32 0x7F800000#32) (ix2 r 0)
      = Select.weight fun k => C (ix2 r k) := by
  unfold_payloads
  pointwise [leastOf_at, countOf_at, atLeast_at, bits_inf, bits_three, Select.weight, Select.low, Select.ties, Select.drop]

/-- The mask of the distances within the threshold. -/
theorem mask_at (D : FVec Ideal S1024x4096 .f32) (r : Fin 1024) (j : Fin 4096) :
    k0_pay177 D C (leastOf C) (atLeast C) (countOf C) (Scalar.ofBits .f32 0x7F800000#32) (ix2 r j)
      = BitVec.ofBool (decide (D (ix2 r j) ≤ Select.threshold fun k => C (ix2 r k))) := by
  unfold_payloads
  pointwise [leastOf_at, countOf_at, atLeast_at, bits_inf, bits_three, Select.threshold, Select.low, Select.ties, Select.drop]

/-! ## The result -/

/-- The body's result at fine point `r` and feature `f`, when the three nearest coarse points are apart from the others. -/
theorem out_at (x2 : Vec Ideal S4096x64 .f32) (x3 : Vec Ideal S1024x64 .f32) (x4 : Vec Ideal S128x128 .f32)
    (x5 : Vec Ideal S1x128 .f32) (x6 : Vec Ideal S128x128 .f32) (x7 : Vec Ideal S1x128 .f32) (r : Fin 1024)
    (f : Fin 128) {j₁ j₂ j₃ : Fin 4096} (h : Row.Near (dist x0 x1 r) j₁ j₂ j₃) :
    out0_8 x0 x1 x2 x3 x4 x5 x6 x7 (ix2 r f)
      = Row.layers (fun k => Row.interp (dist x0 x1 r) j₁ j₂ j₃ fun j => x2 (ix2 j k)) (fun k => x3 (ix2 r k))
          (fun u v => x4 (ix2 u v)) (fun u => x5 (ix2 0 u)) (fun u v => x6 (ix2 u v)) (fun u => x7 (ix2 0 u)) f := by
  obtain ⟨ht, hw⟩ := Select.threshold_weight (least3_candidates x0 x1 r h.least3)
  have hsel : ∀ (j : Fin 4096) (a b : EReal), Scalar.select
      (k0_pay177 (columns (col x0 x1)) (candidates x0 x1) (leastOf (candidates x0 x1)) (atLeast (candidates x0 x1))
        (countOf (candidates x0 x1)) (Scalar.ofBits .f32 0x7F800000#32) (ix2 r j)) a b
        = if dist x0 x1 r j ≤ dist x0 x1 r j₃ then a else b := by
    intro j a b
    rw [mask_at, ht, dist_at]
    pointwise
  rw [out_eq, result]
  generalize hm : k0_pay177 (columns (col x0 x1)) (candidates x0 x1) (leastOf (candidates x0 x1)) (atLeast (candidates x0 x1))
        (countOf (candidates x0 x1)) (Scalar.ofBits .f32 0x7F800000#32) = mask at hsel ⊢
  generalize hd : k0_pay176 (candidates x0 x1) (leastOf (candidates x0 x1)) (atLeast (candidates x0 x1))
        (countOf (candidates x0 x1)) (Scalar.ofBits .f32 0x7F800000#32) = den
  have hden : den (ix2 r 0) = _ := (congrFun hd.symm _).trans ((weight_at _ r).trans hw)
  unfold_payloads
  pointwise [hden, hsel]
  simp only [dist_at, Row.masked_sum h, Row.layers, Row.interp]

end Cert.KernelIdeal.Block

end
-- ==== Proof.Blocks.lean ====
/-
  The blocks the kernel's windows read, in terms of the arguments.

  The fine points and their features come in blocks of 1024 rows: row `r` of block `t` is row `1024 t + r` of the array.
  The coarse points (transposed before the kernel starts), the coarse features, the weights and the biases (laid out as one
  row before the kernel starts) are read whole at every grid point.
-/
module

public import proofs.«01_k».proof.Proof.Gen.KernelIdeal.Value
public import Idealize.ShloMosaic.Lib.Pointwise

@[expose] public section

set_option maxRecDepth 16384

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ) (c : Dev nD)

/-! ## The arrays as the kernel finds them -/

/-- The coarse points are transposed. -/
theorem found_v0 : V m c main_v0
    = transpose S3x4096 [1, 0] (m ((c : Thread nD τ).loc main_arg1)) transposes_S4096x3_S3x4096_1_0 := by
  show StableHlo.after hostOps0 _ (Proc.devRef .tc main_v0) = _
  after_results

/-- The first bias is laid out as a row. -/
theorem found_v1 : V m c main_v1
    = broadcastInDim S1x128 ![1] bcast_S128_S1x128_1 (m ((c : Thread nD τ).loc main_arg7)) := by
  show StableHlo.after hostOps0 _ (Proc.devRef .tc main_v1) = _
  after_results

/-- The second bias is laid out as a row. -/
theorem found_v2 : V m c main_v2
    = broadcastInDim S1x128 ![1] bcast_S128_S1x128_1 (m ((c : Thread nD τ).loc main_arg9)) := by
  show StableHlo.after hostOps0 _ (Proc.devRef .tc main_v2) = _
  after_results

/-! ## Where the blocks lie -/

/-- The windows of 1024 rows move with the grid point; the others stay. -/
theorem moves : ∀ t : Fin cfg0.N, (win0_1.index t 0 = t.val ∧ win0_1.index t 1 = 0) ∧ (win0_3.index t 0 = t.val ∧ win0_3.index t 1 = 0)
    ∧ (win0_8.index t 0 = t.val ∧ win0_8.index t 1 = 0) :=
  (by decide +kernel : ∀ t : Fin grid0.N, (win0_1.index t 0 = t.val ∧ win0_1.index t 1 = 0)
    ∧ (win0_3.index t 0 = t.val ∧ win0_3.index t 1 = 0) ∧ (win0_8.index t 0 = t.val ∧ win0_8.index t 1 = 0))

theorem stays : ∀ t : Fin cfg0.N, (win0_0.index t 0 = 0 ∧ win0_0.index t 1 = 0) ∧ (win0_2.index t 0 = 0 ∧ win0_2.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N, (win0_0.index t 0 = 0 ∧ win0_0.index t 1 = 0) ∧ (win0_2.index t 0 = 0 ∧ win0_2.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0))

/-- Row `r` of block `t`, in the whole array. -/
def row (t : Fin cfg0.N) (r : Fin 1024) : Fin 8192 :=
  ⟨t.val * 1024 + r.val, by have h1 := t.isLt; have h2 := r.isLt; have h3 : cfg0.N = 8 := N_0; omega⟩

/-- A rank-two index is its two coordinates. -/
theorem idx2_ext {n0 n1 : Nat} {i : (⟨2, ![n0, n1]⟩ : Shape).Idx} {a : Fin n0} {b : Fin n1} (h0 : (i 0).val = a.val)
    (h1 : (i 1).val = b.val) : i = ix2 a b := by
  funext z
  match z with
  | ⟨0, _⟩ => exact Fin.ext h0
  | ⟨1, _⟩ => exact Fin.ext h1

/-! ## The blocks -/

theorem block_pos (t : Fin cfg0.N) (k : Fin 3) (j : Fin 4096) :
    iblk m c 0 t (ix2 k j) = m ((c : Thread nD τ).loc main_arg1) (ix2 j k) := by
  show V m c main_v0 (((cfg0.win 0).blk t).view.emb (ix2 k j)) = _
  rw [found_v0]
  have e : ((cfg0.win 0).blk t).view.emb (ix2 k j) = ix2 k j := idx2_ext
    (show win0_0.index t (0 : Fin 2) * 3 + 1 * k.val = k.val by rw [(stays t).1.1]; omega)
    (show win0_0.index t (1 : Fin 2) * 4096 + 1 * j.val = j.val by rw [(stays t).1.2]; omega)
  rw [e]
  pointwise

theorem block_fine (t : Fin cfg0.N) (r : Fin 1024) (k : Fin 3) :
    iblk m c 1 t (ix2 r k) = m ((c : Thread nD τ).loc main_arg4) (ix2 (row t r) k) := by
  show V m c main_arg4 (((cfg0.win 1).blk t).view.emb (ix2 r k)) = _
  rw [V_main_arg4]
  exact congrArg (m ((c : Thread nD τ).loc main_arg4)) (idx2_ext
    (show win0_1.index t (0 : Fin 2) * 1024 + 1 * r.val = t.val * 1024 + r.val by rw [(moves t).1.1]; omega)
    (show win0_1.index t (1 : Fin 2) * 3 + 1 * k.val = k.val by rw [(moves t).1.2]; omega))

theorem block_x (t : Fin cfg0.N) (j : Fin 4096) (k : Fin 64) :
    iblk m c 2 t (ix2 j k) = m ((c : Thread nD τ).loc main_arg0) (ix2 j k) := by
  show V m c main_arg0 (((cfg0.win 2).blk t).view.emb (ix2 j k)) = _
  rw [V_main_arg0]
  exact congrArg (m ((c : Thread nD τ).loc main_arg0)) (idx2_ext
    (show win0_2.index t (0 : Fin 2) * 4096 + 1 * j.val = j.val by rw [(stays t).2.1.1]; omega)
    (show win0_2.index t (1 : Fin 2) * 64 + 1 * k.val = k.val by rw [(stays t).2.1.2]; omega))

theorem block_xs (t : Fin cfg0.N) (r : Fin 1024) (k : Fin 64) :
    iblk m c 3 t (ix2 r k) = m ((c : Thread nD τ).loc main_arg3) (ix2 (row t r) k) := by
  show V m c main_arg3 (((cfg0.win 3).blk t).view.emb (ix2 r k)) = _
  rw [V_main_arg3]
  exact congrArg (m ((c : Thread nD τ).loc main_arg3)) (idx2_ext
    (show win0_3.index t (0 : Fin 2) * 1024 + 1 * r.val = t.val * 1024 + r.val by rw [(moves t).2.1.1]; omega)
    (show win0_3.index t (1 : Fin 2) * 64 + 1 * k.val = k.val by rw [(moves t).2.1.2]; omega))

theorem block_W1 (t : Fin cfg0.N) (u v : Fin 128) :
    iblk m c 4 t (ix2 u v) = m ((c : Thread nD τ).loc main_arg6) (ix2 u v) := by
  show V m c main_arg6 (((cfg0.win 4).blk t).view.emb (ix2 u v)) = _
  rw [V_main_arg6]
  exact congrArg (m ((c : Thread nD τ).loc main_arg6)) (idx2_ext
    (show win0_4.index t (0 : Fin 2) * 128 + 1 * u.val = u.val by rw [(stays t).2.2.1.1]; omega)
    (show win0_4.index t (1 : Fin 2) * 128 + 1 * v.val = v.val by rw [(stays t).2.2.1.2]; omega))

theorem block_b1 (t : Fin cfg0.N) (u : Fin 128) :
    iblk m c 5 t (ix2 0 u) = m ((c : Thread nD τ).loc main_arg7) (ix1 u) := by
  show V m c main_v1 (((cfg0.win 5).blk t).view.emb (ix2 0 u)) = _
  rw [found_v1]
  have e : ((cfg0.win 5).blk t).view.emb (ix2 0 u) = ix2 0 u := idx2_ext
    (show win0_5.index t (0 : Fin 2) * 1 + 1 * 0 = 0 by rw [(stays t).2.2.2.1.1])
    (show win0_5.index t (1 : Fin 2) * 128 + 1 * u.val = u.val by rw [(stays t).2.2.2.1.2]; omega)
  rw [e]
  pointwise

theorem block_W2 (t : Fin cfg0.N) (u v : Fin 128) :
    iblk m c 6 t (ix2 u v) = m ((c : Thread nD τ).loc main_arg8) (ix2 u v) := by
  show V m c main_arg8 (((cfg0.win 6).blk t).view.emb (ix2 u v)) = _
  rw [V_main_arg8]
  exact congrArg (m ((c : Thread nD τ).loc main_arg8)) (idx2_ext
    (show win0_6.index t (0 : Fin 2) * 128 + 1 * u.val = u.val by rw [(stays t).2.2.2.2.1.1]; omega)
    (show win0_6.index t (1 : Fin 2) * 128 + 1 * v.val = v.val by rw [(stays t).2.2.2.2.1.2]; omega))

theorem block_b2 (t : Fin cfg0.N) (u : Fin 128) :
    iblk m c 7 t (ix2 0 u) = m ((c : Thread nD τ).loc main_arg9) (ix1 u) := by
  show V m c main_v2 (((cfg0.win 7).blk t).view.emb (ix2 0 u)) = _
  rw [found_v2]
  have e : ((cfg0.win 7).blk t).view.emb (ix2 0 u) = ix2 0 u := idx2_ext
    (show win0_7.index t (0 : Fin 2) * 1 + 1 * 0 = 0 by rw [(stays t).2.2.2.2.2.1])
    (show win0_7.index t (1 : Fin 2) * 128 + 1 * u.val = u.val by rw [(stays t).2.2.2.2.2.2]; omega)
  rw [e]
  pointwise

/-- Where an element of the result's block lies in the result. -/
theorem block_out (t : Fin cfg0.N) (r : Fin 1024) (f : Fin 128) :
    ((cfg0.win 8).blk t).view.emb (ix2 r f) = ix2 (row t r) f := idx2_ext
  (show win0_8.index t (0 : Fin 2) * 1024 + 1 * r.val = t.val * 1024 + r.val by rw [(moves t).2.2.1]; omega)
  (show win0_8.index t (1 : Fin 2) * 128 + 1 * f.val = f.val by rw [(moves t).2.2.2]; omega)

end Cert.KernelIdeal.Blocks

end
-- ==== Proof.Nearest.lean ====
/-
  The least of a row by sorting.

  The reference takes the three least distances of a row as the three greatest of the negated row: a stable sort, greatest
  first, cut to its head. `place d` is the sorted order of the row `d` (the position of the least distance first); here
  are its properties, and the reading of the cut sort at an index in terms of it.
-/
module

public import proofs.«01_k».proof.Proof.Row
public import Idealize.ShloMosaic.Lib.SortFacts
public import Idealize.ShloMosaic.Lib.Pointwise

@[expose] public section

noncomputable section

namespace Cert.Row

open Idealize.ShloMosaic

/-- The positions of a row in the order of the sort of its negation, greatest first. -/
def place {n : Nat} (d : Fin n → EReal) : Fin n → Fin n :=
  sortedFrom fun k k' => FloatOps.cmpfTotal (F := Ideal) (φ := .f32) .gt (-(d k)) (-(d k')) == 1#1

theorem place_injective {n : Nat} (d : Fin n → EReal) : Function.Injective (place d) := sortedFrom_injective _

theorem place_surjective {n : Nat} (d : Fin n → EReal) : Function.Surjective (place d) := sortedFrom_surjective _

/-- The comparison says which distance is less. -/
theorem before_iff (a b : EReal) : (FloatOps.cmpfTotal (F := Ideal) (φ := .f32) .gt (-a) (-b) == 1#1) = decide (a < b) := by
  rw [Ideal.cmpfTotal_def]
  by_cases h : a < b
  · simp [Ideal.cmp, CmpDirection.ordered, h]
  · simp [Ideal.cmp, CmpDirection.ordered, h]

/-- Along the sorted positions the distances ascend. -/
theorem place_mono {n : Nat} (d : Fin n → EReal) {i j : Fin n} (h : i < j) : d (place d i) ≤ d (place d j) := by
  have := sortedFrom_noInversion (fun k k' => FloatOps.cmpfTotal (F := Ideal) (φ := .f32) .gt (-(d k)) (-(d k')) == 1#1)
    (fun k k' => FloatOps.cmpfTotal (F := Ideal) (φ := .f32) .gt (-(d k)) (-(d k')) == 1#1)
    (by simp only [before_iff]; intro a b hab; simpa using (of_decide_eq_true hab).le)
    (fun _ _ h => h)
    (by simp only [before_iff, decide_eq_false_iff_not, not_lt]; intro a b c hab hbc; exact hbc.trans hab) i j h
  rw [before_iff, decide_eq_false_iff_not, not_lt] at this
  exact this

/-- The first three sorted positions are the three nearest when the third distance is less than the fourth. -/
theorem near_place {n : Nat} (d : Fin n → EReal) {i₀ i₁ i₂ i₃ : Fin n} (h₀ : i₀.val = 0) (h₁ : i₁.val = 1) (h₂ : i₂.val = 2)
    (h₃ : i₃.val = 3) (h : d (place d i₂) < d (place d i₃)) : Near d (place d i₀) (place d i₁) (place d i₂) where
  ne₁₂ e := by have := congrArg Fin.val (place_injective d e); omega
  ne₁₃ e := by have := congrArg Fin.val (place_injective d e); omega
  ne₂₃ e := by have := congrArg Fin.val (place_injective d e); omega
  le₁₂ := place_mono d (Fin.lt_def.2 (by omega))
  le₂₃ := place_mono d (Fin.lt_def.2 (by omega))
  lt_top := h.trans_le le_top
  others j n0 n1 n2 := by
    obtain ⟨i, rfl⟩ := place_surjective d j
    have e0 : i ≠ i₀ := fun e => n0 (e ▸ rfl)
    have e1 : i ≠ i₁ := fun e => n1 (e ▸ rfl)
    have e2 : i ≠ i₂ := fun e => n2 (e ▸ rfl)
    have e0' : i.val ≠ i₀.val := fun e => e0 (Fin.ext e)
    have e1' : i.val ≠ i₁.val := fun e => e1 (Fin.ext e)
    have e2' : i.val ≠ i₂.val := fun e => e2 (Fin.ext e)
    rcases (show i₃.val ≤ i.val by omega).eq_or_lt with e | e
    · rw [← Fin.ext (a := i₃) (b := i) e]; exact h
    · exact h.trans_le (place_mono d (Fin.lt_def.2 e))

variable {R N K : Nat}

/-- A row's index with its column replaced. -/
theorem along_row (i : Fin R) (j k : Fin N) :
    (ix2 i j : (⟨2, ![R, N]⟩ : Shape).Idx).along (1 : Fin 2) k = ix2 i k := by
  funext a
  match a with
  | ⟨0, _⟩ => rfl
  | ⟨1, _⟩ => rfl

/-- A sort of two arrays along the columns, read at an index: the row's sorted order picks from both. -/
theorem sort2_row {α β : Type} (cmp : α × β → α × β → BitVec 1) (x : (⟨2, ![R, N]⟩ : Shape).Idx → α)
    (y : (⟨2, ![R, N]⟩ : Shape).Idx → β) (i : Fin R) (j : Fin N) :
    (Host.sort2 ⟨2, ![R, N]⟩ 1 cmp x y).1 (ix2 i j)
        = x (ix2 i (sortedFrom (fun k k' => cmp (x (ix2 i k), y (ix2 i k)) (x (ix2 i k'), y (ix2 i k')) == 1#1) j))
      ∧ (Host.sort2 ⟨2, ![R, N]⟩ 1 cmp x y).2 (ix2 i j)
        = y (ix2 i (sortedFrom (fun k k' => cmp (x (ix2 i k), y (ix2 i k)) (x (ix2 i k'), y (ix2 i k')) == 1#1) j)) := by
  have hs : (1 : Nat) < (⟨2, ![R, N]⟩ : Shape).rank := Nat.one_lt_two
  have hg : (fun k k' : Fin N => cmp (x ((ix2 i j).along (1 : Fin 2) k), y ((ix2 i j).along (1 : Fin 2) k))
        (x ((ix2 i j).along (1 : Fin 2) k'), y ((ix2 i j).along (1 : Fin 2) k')) == 1#1)
      = fun k k' => cmp (x (ix2 i k), y (ix2 i k)) (x (ix2 i k'), y (ix2 i k')) == 1#1 := by
    funext k k'
    rw [along_row, along_row]
  unfold Host.sort2
  rw [dif_pos hs]
  exact ⟨congrArg x ((along_row i j _).trans (congrArg (fun g => ix2 i (sortedFrom g j)) hg)),
    congrArg y ((along_row i j _).trans (congrArg (fun g => ix2 i (sortedFrom g j)) hg))⟩

/-- The head of an array's columns, read at an index. -/
theorem head_at {α : Type} (x : (⟨2, ![R, N]⟩ : Shape).Idx → α)
    (h : (⟨2, ![R, N]⟩ : Shape).Slices (fun _ => 0) ⟨2, ![R, K]⟩) (i : Fin R) (k : Fin K) (j : Fin N) (hj : j.val = k.val) :
    extractStridedSlice ⟨2, ![R, K]⟩ (fun _ => 0) x h (ix2 i k) = x (ix2 i j) := by
  refine congrArg x (funext fun a => ?_)
  match a with
  | ⟨0, _⟩ => exact Fin.ext (Nat.zero_add _)
  | ⟨1, _⟩ => exact Fin.ext ((Nat.zero_add _).trans hj.symm)

/-- The cut sort of a negated array: the values are the negations at the sorted positions, the words are those positions. -/
theorem topK_row (D : FVec Ideal ⟨2, ![R, N]⟩ .f32) (h : (⟨2, ![R, N]⟩ : Shape).Slices (fun _ => 0) ⟨2, ![R, K]⟩) (i : Fin R)
    (k : Fin K) (j : Fin N) (hj : j.val = k.val) :
    (Host.topK ⟨2, ![R, K]⟩ 1 (FloatOps.cmpfTotal (F := Ideal) (φ := .f32) .gt) (Host.negf D) h).1 (ix2 i k)
        = -(D (ix2 i (place (fun j => D (ix2 i j)) j)))
      ∧ (Host.topK ⟨2, ![R, K]⟩ 1 (FloatOps.cmpfTotal (F := Ideal) (φ := .f32) .gt) (Host.negf D) h).2 (ix2 i k)
        = BitVec.ofNat 32 (place (fun j => D (ix2 i j)) j).val := by
  have hs : (1 : Nat) < (⟨2, ![R, N]⟩ : Shape).rank := Nat.one_lt_two
  have key := sort2_row (fun l r : Ideal .f32 × BitVec 32 => FloatOps.cmpfTotal (F := Ideal) (φ := .f32) .gt l.1 r.1) (Host.negf D)
    (fun i => if hd : 1 < (⟨2, ![R, N]⟩ : Shape).rank then iotaInDim ⟨2, ![R, N]⟩ 32 ⟨1, hd⟩ i else 0#32) i j
  constructor
  · exact (head_at _ h i k j hj).trans key.1
  · refine ((head_at _ h i k j hj).trans key.2).trans ?_
    rw [dif_pos hs]
    rfl

end Cert.Row

end
-- ==== Proof.RefParts.lean ====
/-
  The reference's result, part by part.

  The generated run names the reference's result as one long expression. Here its parts get names: the squared distances,
  the distances with the penalty for another batch, the three least with their positions, the reciprocals, the features
  at the positions, and the two dense layers. `result_eq` says the long expression is these parts put together; nothing is
  computed.
-/
module

public import proofs.«01_k».proof.Proof.Gen.ReferenceIdeal.Run

@[expose] public section

set_option maxRecDepth 8192

noncomputable section

namespace Cert.ReferenceIdeal.Parts

open Cert.ReferenceIdeal Cert.ReferenceIdeal.Gen Idealize.ShloMosaic Idealize.ShloMosaic.TcCoe Idealize.SL.Sem

variable {F : FTy → Type} [FloatOps F]

/-- The fine points minus the coarse points, coordinate by coordinate. -/
def gaps (fine : FVec F S8192x3 .f32) (coarse : FVec F S4096x3 .f32) : FVec F S8192x4096x3 .f32 :=
  subf (broadcastInDim S8192x4096x3 ![0, 1, 2] bcast_S8192x1x3_S8192x4096x3_0_1_2
      (broadcastInDim S8192x1x3 ![0, 2] bcast_S8192x3_S8192x1x3_0_2 fine))
    (broadcastInDim S8192x4096x3 ![0, 1, 2] bcast_S1x4096x3_S8192x4096x3_0_1_2
      (broadcastInDim S1x4096x3 ![1, 2] bcast_S4096x3_S1x4096x3_1_2 coarse))

/-- The squared distances. -/
def squares (fine : FVec F S8192x3 .f32) (coarse : FVec F S4096x3 .f32) : FVec F S8192x4096 .f32 :=
  Host.reduceAdd (mulf (gaps fine coarse) (gaps fine coarse)) (constant S_ .f32 0x00000000#32)
    reducesTo_S8192x4096x3_S8192x4096_d2 h_S_

/-- The penalty: a large number where the batches differ, else zero. -/
def penalty (bf : IVec S8192 32) (bc : IVec S4096 32) : FVec F S8192x4096 .f32 :=
  id (select (cmpi .ne
      (broadcastInDim S8192x4096 ![0, 1] bcast_S8192x1_S8192x4096_0_1 (broadcastInDim S8192x1 ![0] bcast_S8192_S8192x1_0 bf))
      (broadcastInDim S8192x4096 ![0, 1] bcast_S1x4096_S8192x4096_0_1 (broadcastInDim S1x4096 ![1] bcast_S4096_S1x4096_1 bc)))
    (broadcastInDim S8192x4096 ![] bcast_S_S8192x4096 (constant S_ .f32 0x501502F9#32))
    (broadcastInDim S8192x4096 ![] bcast_S_S8192x4096 (constant S_ .f32 0x00000000#32)))

/-- The three least of every row of distances, negated, and their positions. -/
def nearest (D : FVec F S8192x4096 .f32) : FVec F S8192x3 .f32 × IVec S8192x3 32 :=
  Host.topK S8192x3 1 (FloatOps.cmpfTotal .gt) (Host.negf D) sliceFits_S8192x4096_S8192x3

/-- The reciprocals of the three least distances, clipped from below. -/
def recips (v : FVec F S8192x3 .f32) : FVec F S8192x3 .f32 :=
  Host.divf (broadcastInDim S8192x3 ![] bcast_S_S8192x3 (constant S_ .f32 0x3F800000#32))
    (maximumf (Host.negf v) (broadcastInDim S8192x3 ![] bcast_S_S8192x3 (constant S_ .f32 0x24E69595#32)))

/-- The positions, counted from the end where negative. -/
def places (p : IVec S8192x3 32) : IVec S8192x3x1 32 :=
  broadcastInDim S8192x3x1 ![0, 1] bcast_S8192x3_S8192x3x1_0_1
    (select (cmpi .slt p (broadcastInDim S8192x3 ![] bcast_S_S8192x3 (constantI S_ 32 0#32)))
      (addi p (broadcastInDim S8192x3 ![] bcast_S_S8192x3 (constantI S_ 32 4096#32))) p)

/-- Whether the positions lie in the array. -/
def inside (q : IVec S8192x3x1 32) : IVec S8192x3 1 :=
  Host.reduce IntOp.andi
    (andi (cmpi .sge q (broadcastInDim S8192x3x1 ![] bcast_S_S8192x3x1 (constantI S_ 32 0#32)))
      (cmpi .sle q (broadcastInDim S8192x3x1 ![0, 1, 2] bcast_S1x1x1_S8192x3x1_0_1_2
        (broadcastInDim S1x1x1 ![2] bcast_S1_S1x1x1_2 (constantI S1 32 4095#32)))))
    (constantI S_ 1 1#1) reducesTo_S8192x3x1_S8192x3_d2 h_S_

/-- The coarse features at the positions. -/
def feats (x : FVec F S4096x64 .f32) (q : IVec S8192x3x1 32) : FVec F S8192x3x64 .f32 :=
  select (broadcastInDim S8192x3x64 ![0, 1] bcast_S8192x3_S8192x3x64_0_1 (inside q))
    (Host.gather gather_S4096x64_S8192x3x1_S8192x3x64_2_0_n_n_0_2_164 x q)
    (broadcastInDim S8192x3x64 ![] bcast_S_S8192x3x64 (constant S_ .f32 0x7FC00000#32))

/-- The interpolated features: the sum weighted by the reciprocals, over the reciprocals' sum. -/
def mean (w : FVec F S8192x3 .f32) (y : FVec F S8192x3x64 .f32) : FVec F S8192x64 .f32 :=
  Host.divf
    (Host.reduceAdd
      (mulf (broadcastInDim S8192x3x64 ![0, 1, 2] bcast_S8192x3x1_S8192x3x64_0_1_2
        (broadcastInDim S8192x3x1 ![0, 1] bcast_S8192x3_S8192x3x1_0_1 w)) y)
      (constant S_ .f32 0x00000000#32) reducesTo_S8192x3x64_S8192x64_d1 h_S_)
    (broadcastInDim S8192x64 ![0, 1] bcast_S8192x1_S8192x64_0_1
      (broadcastInDim S8192x1 ![0] bcast_S8192_S8192x1_0
        (Host.reduceAdd w (constant S_ .f32 0x00000000#32) reducesTo_S8192x3_S8192_d1 h_S_)))

/-- The two dense layers. -/
def layers (h xs : FVec F S8192x64 .f32) (W1 : FVec F S128x128 .f32) (b1 : FVec F S128 .f32) (W2 : FVec F S128x128 .f32)
    (b2 : FVec F S128 .f32) : FVec F S8192x128 .f32 :=
  addf (Host.dotGeneral dot_S8192x128_S128x128_S8192x128_1_0_0_1_n_n none
      (maximumf
        (addf (Host.dotGeneral dot_S8192x128_S128x128_S8192x128_1_0_0_1_n_n none
            (concatenate S8192x128 1 [⟨S8192x64, h⟩, ⟨S8192x64, xs⟩] concatenates_S8192x64_S8192x64_S8192x128_d1) W1)
          (broadcastInDim S8192x128 ![0, 1] bcast_S1x128_S8192x128_0_1 (broadcastInDim S1x128 ![1] bcast_S128_S1x128_1 b1)))
        (broadcastInDim S8192x128 ![] bcast_S_S8192x128 (constant S_ .f32 0x00000000#32)))
      W2)
    (broadcastInDim S8192x128 ![0, 1] bcast_S1x128_S8192x128_0_1 (broadcastInDim S1x128 ![1] bcast_S128_S1x128_1 b2))

/-- The reference's result from its arguments. -/
def result (x : FVec F S4096x64 .f32) (coarse : FVec F S4096x3 .f32) (bc : IVec S4096 32) (xs : FVec F S8192x64 .f32)
    (fine : FVec F S8192x3 .f32) (bf : IVec S8192 32) (W1 : FVec F S128x128 .f32) (b1 : FVec F S128 .f32)
    (W2 : FVec F S128x128 .f32) (b2 : FVec F S128 .f32) : FVec F S8192x128 .f32 :=
  let N := nearest (addf (squares fine coarse) (penalty bf bc))
  layers (mean (recips N.1) (feats x (places N.2))) xs W1 b1 W2 b2

/-- The named result of the run is the parts put together. -/
theorem result_eq (m : (ℓ : Loc nD τ sig) → Buf (Elt F) ℓ) (c : Dev nD) :
    Value.res_main_v40 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := rfl

end Cert.ReferenceIdeal.Parts

end
-- ==== Proof.Apart.lean ====
/-
  What the precondition says of one row.

  The precondition's three arrays are all ones: the batches are equal, every least distance is at least the reference's
  clip, and every third least distance is less than the fourth. Here they are read at one fine point: equal batches, and
  the two comparisons of the row's distances at their sorted positions (`Row.place`).
-/
module

public import proofs.«01_k».proof.Proof.Nearest
public import proofs.«01_k».proof.Proof.RefParts
public import proofs.«01_k».proof.Proof.Gen.Pre_third_nearest_apart
public import Idealize.ShloMosaic.Lib.StableHlo.Predicate

@[expose] public section

set_option maxRecDepth 16384

noncomputable section

namespace Cert.Apart

open Cert.ReferenceIdeal Cert.ReferenceIdeal.Gen Idealize.ShloMosaic Idealize.ShloMosaic.TcCoe Idealize.SL.Sem

/-- The distances of fine point `i` to the coarse points. -/
def dist (fine : FVec Ideal S8192x3 .f32) (coarse : FVec Ideal S4096x3 .f32) (i : Fin 8192) (j : Fin 4096) : EReal :=
  Row.sqdist (fun c => fine (ix2 i c)) (fun c => coarse (ix2 j c))

theorem squares_at (fine : FVec Ideal S8192x3 .f32) (coarse : FVec Ideal S4096x3 .f32) (i : Fin 8192) (j : Fin 4096) :
    Parts.squares fine coarse (ix2 i j) = dist fine coarse i j := by
  unfold Parts.squares Parts.gaps
  pointwise
  rw [Fin.sum_univ_three]
  simp only [dist, Row.sqdist, zero_add]

/-- The four least of every row, negated, as the precondition computes them. -/
def four (fine : FVec Ideal S8192x3 .f32) (coarse : FVec Ideal S4096x3 .f32) :
    FVec Ideal Cert.Pre_third_nearest_apart.S8192x4 .f32 :=
  (Host.topK Cert.Pre_third_nearest_apart.S8192x4 1 (FloatOps.cmpfTotal .gt) (Host.negf (Parts.squares fine coarse))
    Cert.Pre_third_nearest_apart.Facts.sliceFits_S8192x4096_S8192x4).1

theorem four_at (fine : FVec Ideal S8192x3 .f32) (coarse : FVec Ideal S4096x3 .f32) (i : Fin 8192) (k : Fin 4) :
    four fine coarse (ix2 i k)
      = -(dist fine coarse i (Row.place (dist fine coarse i) ⟨k.val, by omega⟩)) := by
  refine (Row.topK_row (Parts.squares fine coarse) _ i k ⟨k.val, by omega⟩ rfl).1.trans ?_
  rw [funext (squares_at fine coarse i), squares_at]

/-- A one-bit word of a decision that is one. -/
theorem of_word {p : Prop} [Decidable p] (h : BitVec.ofBool (decide p) = 1#1) : p := by
  by_contra hp
  rw [decide_eq_false hp] at h
  exact absurd h (by decide)

variable (x : FVec Ideal S4096x64 .f32) (coarse : FVec Ideal S4096x3 .f32) (bc : IVec S4096 32) (xs : FVec Ideal S8192x64 .f32)
  (fine : FVec Ideal S8192x3 .f32) (bf : IVec S8192 32) (W1 : FVec Ideal S128x128 .f32) (b1 : FVec Ideal S128 .f32)
  (W2 : FVec Ideal S128x128 .f32) (b2 : FVec Ideal S128 .f32)

/-- The precondition at a row. -/
structure Holds (i : Fin 8192) : Prop where
  batch : ∀ j, bf (ix1 i) = bc (ix1 j)
  clip : Ideal.ofBits .f32 0x24E69595#32 ≤ dist fine coarse i (Row.place (dist fine coarse i) 0)
  third : dist fine coarse i (Row.place (dist fine coarse i) 2) < dist fine coarse i (Row.place (dist fine coarse i) 3)

theorem holds
    (h₁ : (Cert.Pre_third_nearest_apart.fn (F := Ideal) x coarse bc xs fine bf W1 b1 W2 b2).1 = fun _ => 1#1)
    (h₂ : (Cert.Pre_third_nearest_apart.fn (F := Ideal) x coarse bc xs fine bf W1 b1 W2 b2).2.1 = fun _ => 1#1)
    (h₃ : (Cert.Pre_third_nearest_apart.fn (F := Ideal) x coarse bc xs fine bf W1 b1 W2 b2).2.2 = fun _ => 1#1)
    (i : Fin 8192) : Holds coarse bc fine bf i where
  batch j := by
    have h := congrFun h₁ (ix2 i j)
    unfold Cert.Pre_third_nearest_apart.fn Cert.Pre_third_nearest_apart.fn_part1 at h
    pointwise at h
    exact StableHlo.Predicate.cmpi_eq_iff.1 h
  clip := by
    have h := congrFun h₂ (ix1 i)
    have e : (Cert.Pre_third_nearest_apart.fn (F := Ideal) x coarse bc xs fine bf W1 b1 W2 b2).2.1
      = cmpf .oge (Host.negf (shapeCast Cert.Pre_third_nearest_apart.S8192 (extractStridedSlice Cert.Pre_third_nearest_apart.S8192x1 ![0, 0] (four fine coarse)
          Cert.Pre_third_nearest_apart.Facts.slices_S8192x4_S8192x1_0_0) Cert.Pre_third_nearest_apart.Facts.shapeCasts_S8192x1_S8192))
          (broadcastInDim Cert.Pre_third_nearest_apart.S8192 ![] Cert.Pre_third_nearest_apart.Facts.bcast_S_S8192
            (constant Cert.Pre_third_nearest_apart.S_ .f32 0x24E69595#32)) := rfl
    rw [e] at h
    pointwise at h
    have h' := of_word h
    rw [four_at, neg_neg] at h'
    exact h'
  third := by
    have h := congrFun h₃ (ix1 i)
    have e : (Cert.Pre_third_nearest_apart.fn (F := Ideal) x coarse bc xs fine bf W1 b1 W2 b2).2.2
      = cmpf .olt (Host.negf (shapeCast Cert.Pre_third_nearest_apart.S8192 (extractStridedSlice Cert.Pre_third_nearest_apart.S8192x1 ![0, 2] (four fine coarse)
          Cert.Pre_third_nearest_apart.Facts.slices_S8192x4_S8192x1_0_2) Cert.Pre_third_nearest_apart.Facts.shapeCasts_S8192x1_S8192))
          (Host.negf (shapeCast Cert.Pre_third_nearest_apart.S8192 (extractStridedSlice Cert.Pre_third_nearest_apart.S8192x1 ![0, 3] (four fine coarse)
          Cert.Pre_third_nearest_apart.Facts.slices_S8192x4_S8192x1_0_3) Cert.Pre_third_nearest_apart.Facts.shapeCasts_S8192x1_S8192)) := rfl
    rw [e] at h
    pointwise at h
    have h' := of_word h
    rw [four_at, four_at, neg_neg, neg_neg] at h'
    exact h'

end Cert.Apart

end
-- ==== Proof.Gather.lean ====
/-
  The gathered features, at an index.

  The reference takes the coarse features at the three sorted positions with a gather of whole rows: a position below zero
  would be counted from the end, a position outside the array would give the fill. A sorted position is below 4096, so
  neither happens and the gather reads the feature row at the position.
-/
module

public import proofs.«01_k».proof.Proof.RefParts
public import Idealize.ShloMosaic.Lib.Pointwise
public import Idealize.ShloMosaic.Lib.StableHlo.Predicate
public import Idealize.ShloMosaic.Lib.Routing.OpsPair

@[expose] public section

set_option maxRecDepth 16384

noncomputable section

namespace Cert.ReferenceIdeal.Parts

open Cert.ReferenceIdeal Cert.ReferenceIdeal.Gen Idealize.ShloMosaic Idealize.ShloMosaic.TcCoe Idealize.SL.Sem

/-- The gather's dimension numbers. -/
abbrev G := gather_S4096x64_S8192x3x1_S8192x3x64_2_0_n_n_0_2_164

/-- The gather's row: the start word. -/
theorem gather_row_coord (q : IVec S8192x3x1 32) (i : Fin 8192) (k : Fin 3) (f : Fin 64)
    (n : Fin 4096) (hq : q (ix3 i k 0) = BitVec.ofNat 32 n.val) :
    G.start (ix3 i k f) q (0 : Fin 2) + G.batchCoord (ix3 i k f) (0 : Fin 2) + G.offCoord (ix3 i k f) (0 : Fin 2) = n.val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ G.startIndexMap from List.mem_singleton.mpr rfl)]
  have hsi : G.siIdx (ix3 i k f) ⟨List.idxOf (0 : Fin 2) G.startIndexMap,
      List.idxOf_lt_length_iff.2 (List.mem_singleton.mpr rfl)⟩ = ix3 i k 0 := by
    funext b; refine Fin.ext ?_
    match b with
    | ⟨0, _⟩ => rfl
    | ⟨1, _⟩ => rfl
    | ⟨2, _⟩ => rfl
  have hn := n.isLt
  have e : min (q (ix3 i k 0)).toInt.toNat (4096 - 1) = n.val := by
    rw [hq, StableHlo.Predicate.toInt_ofNat_small _ (by omega), Int.toNat_natCast]
    omega
  exact (congrArg (fun z => min (q z).toInt.toNat (4096 - 1)) hsi).trans e

/-- The gather's column: the result's. -/
theorem gather_col_coord (q : IVec S8192x3x1 32) (i : Fin 8192) (k : Fin 3) (f : Fin 64) :
    G.start (ix3 i k f) q (1 : Fin 2) + G.batchCoord (ix3 i k f) (1 : Fin 2) + G.offCoord (ix3 i k f) (1 : Fin 2) = f.val := by
  rw [GatherDims.batchCoord_eq_zero _ _ _ List.not_mem_nil]
  unfold GatherDims.start
  rw [dif_neg (show ¬ (1 : Fin 2) ∈ G.startIndexMap from by decide)]
  simp only [Nat.add_zero, Nat.zero_add]
  rfl

/-- The gather of rows, at an index. -/
theorem gather_at (x : FVec Ideal S4096x64 .f32) (q : IVec S8192x3x1 32) (i : Fin 8192) (k : Fin 3) (f : Fin 64)
    (n : Fin 4096) (hq : q (ix3 i k 0) = BitVec.ofNat 32 n.val) :
    Host.gather G x q (ix3 i k f) = x (ix2 n f) := by
  unfold Host.gather
  refine congrArg x (funext fun a => Fin.ext ?_)
  match a with
  | ⟨0, _⟩ => exact gather_row_coord q i k f n hq
  | ⟨1, _⟩ => exact gather_col_coord q i k f

/-- A position below 4096 is itself after the wrap. -/
theorem places_at (p : IVec S8192x3 32) (i : Fin 8192) (k : Fin 3) (n : Fin 4096) (hp : p (ix2 i k) = BitVec.ofNat 32 n.val) :
    places p (ix3 i k 0) = BitVec.ofNat 32 n.val := by
  unfold places
  pointwise
  rw [hp]
  exact Routing.wrap_of_lt _ _ (by rw [BitVec.toNat_ofNat]; have := n.isLt; omega)

/-- A position below 4096 lies inside. -/
theorem inside_at (q : IVec S8192x3x1 32) (i : Fin 8192) (k : Fin 3) (n : Fin 4096)
    (hq : q (ix3 i k 0) = BitVec.ofNat 32 n.val) : inside q (ix2 i k) = 1#1 := by
  unfold inside
  pointwise
  rw [Finset.univ_unique, Finset.fold_singleton]
  have hn := n.isLt
  have h0 : IntOp.cmpi .sge (q (ix3 i k 0)) 0#32 = 1#1 := by
    rw [hq]
    exact (StableHlo.Predicate.sle_ofNat_iff 0 n.val (by omega) (by omega)).2 (Nat.zero_le _)
  have h1 : IntOp.cmpi .sle (q (ix3 i k 0)) 4095#32 = 1#1 := by
    rw [hq]
    exact (StableHlo.Predicate.sle_ofNat_iff n.val 4095 (by omega) (by omega)).2 (by omega)
  show IntOp.andi (IntOp.andi (IntOp.cmpi .sge (q (ix3 i k 0)) 0#32) (IntOp.cmpi .sle (q (ix3 i k 0)) 4095#32)) 1#1 = 1#1
  rw [h0, h1]
  rfl

/-- The features at a position. -/
theorem feats_at (x : FVec Ideal S4096x64 .f32) (q : IVec S8192x3x1 32) (i : Fin 8192) (k : Fin 3) (f : Fin 64)
    (n : Fin 4096) (hq : q (ix3 i k 0) = BitVec.ofNat 32 n.val) : feats x q (ix3 i k f) = x (ix2 n f) := by
  have e : feats x q (ix3 i k f) = Scalar.select (inside q (ix2 i k)) (Host.gather G x q (ix3 i k f))
      (Ideal.ofBits .f32 0x7FC00000#32) := by
    unfold feats
    pointwise
  rw [e, inside_at q i k n hq, gather_at x q i k f n hq]
  rfl

end Cert.ReferenceIdeal.Parts

end
-- ==== Proof.RefRow.lean ====
/-
  The reference's result, at an index.

  Under the precondition a row's penalty is zero, its clip does nothing, and its three sorted positions are its three
  nearest coarse points. The reference's features are then the interpolation from these three, and its result the two
  layers of them: the same formulas the kernel's body was brought to.
-/
module

public import proofs.«01_k».proof.Proof.Apart
public import proofs.«01_k».proof.Proof.Gather

@[expose] public section

set_option maxRecDepth 16384

noncomputable section

namespace Cert.ReferenceIdeal.Parts

open Cert.ReferenceIdeal Cert.ReferenceIdeal.Gen Idealize.ShloMosaic Idealize.ShloMosaic.TcCoe Idealize.SL.Sem

/-! ## The parts at an index -/

theorem recips_at (v : FVec Ideal S8192x3 .f32) (i : Fin 8192) (k : Fin 3) :
    recips v (ix2 i k) = Ideal.div 1 (max (-(v (ix2 i k))) (Ideal.ofBits .f32 0x24E69595#32)) := by
  unfold recips
  pointwise

theorem mean_at (w : FVec Ideal S8192x3 .f32) (y : FVec Ideal S8192x3x64 .f32) (i : Fin 8192) (f : Fin 64) :
    mean w y (ix2 i f) = Ideal.div
      (w (ix2 i 0) * y (ix3 i 0 f) + w (ix2 i 1) * y (ix3 i 1 f) + w (ix2 i 2) * y (ix3 i 2 f))
      (w (ix2 i 0) + w (ix2 i 1) + w (ix2 i 2)) := by
  unfold mean
  pointwise
  rw [Fin.sum_univ_three, Fin.sum_univ_three]

theorem layers_at (h xs : FVec Ideal S8192x64 .f32) (W1 : FVec Ideal S128x128 .f32) (b1 : FVec Ideal S128 .f32)
    (W2 : FVec Ideal S128x128 .f32) (b2 : FVec Ideal S128 .f32) (i : Fin 8192) (f : Fin 128) :
    layers h xs W1 b1 W2 b2 (ix2 i f)
      = Row.layers (fun k => h (ix2 i k)) (fun k => xs (ix2 i k)) (fun u v => W1 (ix2 u v)) (fun u => b1 (ix1 u))
        (fun u v => W2 (ix2 u v)) (fun u => b2 (ix1 u)) f := by
  unfold layers Row.layers
  pointwise

/-! ## A row under the precondition -/

variable (x : FVec Ideal S4096x64 .f32) (coarse : FVec Ideal S4096x3 .f32) (bc : IVec S4096 32) (xs : FVec Ideal S8192x64 .f32)
  (fine : FVec Ideal S8192x3 .f32) (bf : IVec S8192 32) (W1 : FVec Ideal S128x128 .f32) (b1 : FVec Ideal S128 .f32)
  (W2 : FVec Ideal S128x128 .f32) (b2 : FVec Ideal S128 .f32)

theorem penalty_at (i : Fin 8192) (j : Fin 4096) (h : bf (ix1 i) = bc (ix1 j)) :
    penalty (F := Ideal) bf bc (ix2 i j) = 0 := by
  unfold penalty
  rw [id_eq]
  pointwise
  have e : IntOp.cmpi .ne (bc (ix1 j)) (bc (ix1 j)) = 0#1 := by simp [IntOp.cmpi]
  rw [h, e]
  rfl

/-- The reference's distances are the squared distances. -/
theorem dist_at {i : Fin 8192} (h : Apart.Holds coarse bc fine bf i) (j : Fin 4096) :
    addf (squares fine coarse) (penalty bf bc) (ix2 i j) = Apart.dist fine coarse i j := by
  refine (show _ = squares fine coarse (ix2 i j) + penalty (F := Ideal) bf bc (ix2 i j) from rfl).trans ?_
  rw [penalty_at bc bf i j (h.batch j), Apart.squares_at, add_zero]

/-- The sorted positions of a row's distances. -/
abbrev pos (i : Fin 8192) : Fin 4096 → Fin 4096 := Row.place (Apart.dist fine coarse i)

theorem nearest_at {i : Fin 8192} (h : Apart.Holds coarse bc fine bf i) (k : Fin 3) :
    (nearest (addf (squares fine coarse) (penalty bf bc))).1 (ix2 i k)
        = -(Apart.dist fine coarse i (pos coarse fine i ⟨k.val, by omega⟩))
      ∧ (nearest (addf (squares fine coarse) (penalty (F := Ideal) bf bc))).2 (ix2 i k)
        = BitVec.ofNat 32 (pos coarse fine i ⟨k.val, by omega⟩).val := by
  have key := Row.topK_row (addf (squares fine coarse) (penalty (F := Ideal) bf bc)) sliceFits_S8192x4096_S8192x3 i k
    ⟨k.val, by omega⟩ rfl
  rw [funext (dist_at coarse bc fine bf h), dist_at coarse bc fine bf h] at key
  exact key

theorem near {i : Fin 8192} (h : Apart.Holds coarse bc fine bf i) :
    Row.Near (Apart.dist fine coarse i) (pos coarse fine i 0) (pos coarse fine i 1) (pos coarse fine i 2) :=
  Row.near_place _ rfl rfl rfl rfl h.third

theorem recip_at {i : Fin 8192} (h : Apart.Holds coarse bc fine bf i) (k : Fin 3) :
    recips (nearest (addf (squares fine coarse) (penalty bf bc))).1 (ix2 i k)
      = Ideal.div 1 (Apart.dist fine coarse i (pos coarse fine i ⟨k.val, by omega⟩)) := by
  rw [recips_at, (nearest_at coarse bc fine bf h k).1, neg_neg, max_eq_left]
  refine h.clip.trans ?_
  by_cases hk : k.val = 0
  · exact le_of_eq (congrArg _ (congrArg _ (Fin.ext hk.symm)))
  · exact Row.place_mono _ (Fin.lt_def.2 (Nat.pos_of_ne_zero hk))

theorem feat_at {i : Fin 8192} (h : Apart.Holds coarse bc fine bf i) (k : Fin 3) (f : Fin 64) :
    feats x (places (nearest (addf (squares fine coarse) (penalty (F := Ideal) bf bc))).2) (ix3 i k f)
      = x (ix2 (pos coarse fine i ⟨k.val, by omega⟩) f) :=
  feats_at x _ i k f _ (places_at _ i k _ (nearest_at coarse bc fine bf h k).2)

/-- The reference's result at fine point `i` and feature `f`. -/
theorem result_at {i : Fin 8192} (h : Apart.Holds coarse bc fine bf i) (f : Fin 128) :
    result x coarse bc xs fine bf W1 b1 W2 b2 (ix2 i f)
      = Row.layers (fun k => Row.interp (Apart.dist fine coarse i) (pos coarse fine i 0) (pos coarse fine i 1) (pos coarse fine i 2)
          fun j => x (ix2 j k)) (fun k => xs (ix2 i k)) (fun u v => W1 (ix2 u v)) (fun u => b1 (ix1 u))
        (fun u v => W2 (ix2 u v)) (fun u => b2 (ix1 u)) f := by
  refine (layers_at _ xs W1 b1 W2 b2 i f).trans ?_
  refine congrArg (fun g => Row.layers g _ _ _ _ _ f) (funext fun k => ?_)
  rw [mean_at, recip_at coarse bc fine bf h 0, recip_at coarse bc fine bf h 1, recip_at coarse bc fine bf h 2,
    feat_at x coarse bc fine bf h 0, feat_at x coarse bc fine bf h 1, feat_at x coarse bc fine bf h 2]
  rfl

end Cert.ReferenceIdeal.Parts

end
-- ==== Proof.Claim.lean ====
/-
  The kernel's result is the reference's.

  Every block the kernel writes is its block of the reference's result, index by index: both are the two dense layers of
  the interpolation from the three nearest coarse points. The eight blocks fill the result, so the result arrays are
  equal.
-/
module

public import proofs.«01_k».proof.Defs
public import proofs.«01_k».proof.Proof.Block
public import proofs.«01_k».proof.Proof.Blocks
public import proofs.«01_k».proof.Proof.RefRow

@[expose] public section

set_option maxRecDepth 16384

noncomputable section

namespace Cert.KernelIdeal.Claim

open Cert.KernelIdeal Cert.KernelIdeal.Gen Idealize.ShloMosaic Idealize.ShloMosaic.TcCoe Idealize.SL.Sem

variable (m : (ℓ : Loc nD τ sig) → Buf (Elt Ideal) ℓ) (c : Dev nD)

/-- The reference's result of the kernel's arguments. -/
def target : FVec Ideal S8192x128 .f32 :=
  Cert.ReferenceIdeal.Parts.result (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The precondition of the kernel's arguments, at every row. -/
theorem holds (h : Cert.Pre_KernelIdeal_third_nearest_apart m) (i : Fin 8192) :
    Cert.Apart.Holds (m ((c : Thread nD τ).loc main_arg1)) (m ((c : Thread nD τ).loc main_arg2))
      (m ((c : Thread nD τ).loc main_arg4)) (m ((c : Thread nD τ).loc main_arg5)) i :=
  Cert.Apart.holds _ _ _ _ _ _ _ _ _ _ (h c).1 (h c).2.1 (h c).2.2 i

/-- A block's distances are its rows' distances. -/
theorem dist_eq (t : Fin cfg0.N) (r : Fin 1024) :
    Block.dist (iblk m c 0 t) (iblk m c 1 t) r
      = Cert.Apart.dist (m ((c : Thread nD τ).loc main_arg4)) (m ((c : Thread nD τ).loc main_arg1)) (Blocks.row t r) := by
  funext j
  exact congrArg₂ Row.sqdist (funext fun k => Blocks.block_fine m c t r k) (funext fun k => Blocks.block_pos m c t k j)

/-- The body's result at an index is the reference's at the row's place. -/
theorem body_eq (h : Cert.Pre_KernelIdeal_third_nearest_apart m) (t : Fin cfg0.N) (r : Fin 1024) (f : Fin 128) :
    out0_8 (iblk m c 0 t) (iblk m c 1 t) (iblk m c 2 t) (iblk m c 3 t) (iblk m c 4 t) (iblk m c 5 t) (iblk m c 6 t)
        (iblk m c 7 t) (ix2 r f)
      = target m c (ix2 (Blocks.row t r) f) := by
  have hr := holds m c h (Blocks.row t r)
  have hn := Cert.ReferenceIdeal.Parts.near _ _ _ _ hr
  refine (Block.out_at (iblk m c 0 t) (iblk m c 1 t) (iblk m c 2 t) (iblk m c 3 t) (iblk m c 4 t) (iblk m c 5 t) (iblk m c 6 t)
        (iblk m c 7 t) r f (by rw [dist_eq]; exact hn)).trans ?_
  refine Eq.trans ?_ (Cert.ReferenceIdeal.Parts.result_at _ _ _ _ _ _ _ _ _ _ hr f).symm
  rw [dist_eq]
  simp only [Blocks.block_x, Blocks.block_xs, Blocks.block_W1, Blocks.block_W2, Blocks.block_b1, Blocks.block_b2]

/-- What a grid point writes is its block of the reference's result. -/
theorem flushed_eq (h : Cert.Pre_KernelIdeal_third_nearest_apart m) (t : Fin cfg0.N) :
    (dats m 0 c).flushed 8 t = ((cfg0.win 8).blk t).view.read (Elt Ideal) (target m c) := by
  rw [Value.flushed8]
  funext j
  obtain ⟨r, f, rfl⟩ : ∃ (r : Fin 1024) (f : Fin 128), j = ix2 r f := ⟨j 0, j 1, eq_ix2 j⟩
  refine (show _ = out0_8 (iblk m c 0 t) (iblk m c 1 t) (iblk m c 2 t) (iblk m c 3 t) (iblk m c 4 t) (iblk m c 5 t)
    (iblk m c 6 t) (iblk m c 7 t) (ix2 r f) from rfl).trans ((body_eq m c h t r f).trans ?_)
  exact congrArg (target m c) (Blocks.block_out t r f).symm

/-- The blocks fill the result. -/
theorem cover (i : S8192x128.Idx) :
    ∃ t : Fin cfg0.N, (cfg0.win 8).flush t = true ∧ i ∈ ((cfg0.win 8).blk t).view.set := by
  have h0 : (i 0).val < 8192 := (i 0).isLt
  have hN : cfg0.N = 8 := N_0
  let t : Fin cfg0.N := ⟨(i 0).val / 1024, by omega⟩
  let r : Fin 1024 := ⟨(i 0).val % 1024, Nat.mod_lt _ (by omega)⟩
  have e : ix2 (Blocks.row t r) (i 1) = i := (Blocks.idx2_ext
    (show (i 0).val = (i 0).val / 1024 * 1024 + (i 0).val % 1024 by omega) rfl).symm
  have h := ((cfg0.win 8).blk t).view.emb_mem_set (ix2 r (i 1))
  exact ⟨t, flush0_8 _, Eq.mp (congrArg (· ∈ ((cfg0.win 8).blk t).view.set) ((Blocks.block_out t r (i 1)).trans e)) h⟩

/-- The kernel's result array after the run is the reference's result of its arguments. -/
theorem final (h : Cert.Pre_KernelIdeal_third_nearest_apart m) : (dats m 0 c).arrAt 8 cfg0.N = target m c :=
  (dats m 0 c).arrAt_eq_of_cover 8 (target m c) (fun t _ => flushed_eq m c h t) cover

/-- The two programs, started on the same arguments under the precondition, end with the same results. -/
theorem algebraic : Cert.algebraic_KernelIdeal_ReferenceIdeal_pre_third_nearest_apart := by
  intro m ρ m' ρ' hpre hagree
  refine ⟨fun c => target m c, fun c => m ((c.tc : Thread nD τ).loc main_arg4), fun c => m ((c.tc : Thread nD τ).loc main_arg5), ?_, ?_⟩
  · exact (θ_run Cert.KernelIdeal.defs _ _).mono
      (fun r h c => by
        obtain ⟨h3, k0, k1, k2, k3, k4, k5, k6, k7, k8, k9⟩ := h c
        exact ⟨h3.trans (final m c hpre), k4, k5, k0, k1, k2, k3, k4, k5, k6, k7, k8, k9⟩)
      (Value.run_blocks (F := Ideal) m ρ)
  · refine (θ_run Cert.ReferenceIdeal.defs _ _).mono (fun r h c => ?_) (Cert.ReferenceIdeal.Value.run (F := Ideal) m' ρ')
    obtain ⟨a0, a1, a2, a3, a4, a5, a6, a7, a8, a9⟩ := hagree c
    obtain ⟨h40, h4, h5, hrest⟩ := h c
    refine ⟨h40.trans ((Cert.ReferenceIdeal.Parts.result_eq m' c).trans ?_), h4.trans a4, h5.trans a5, hrest⟩
    rw [a0, a1, a2, a3, a4, a5, a6, a7, a8, a9]
    rfl

end Cert.KernelIdeal.Claim

end
-- ==== Proof.lean ====
/-
  The proof of `Cert.Claim`: the frames of the kernel, of its idealization and of the reference, and the equality of the
  kernel's and the reference's results over the extended reals (`Proof/Claim.lean`). The stated facts of the programs and
  of the precondition come first.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_third_nearest_apart
public import proofs.«01_k».proof.Proof.Claim
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- Every run of the kernel ends with its arguments unchanged and every counter at zero. -/
theorem frame_kernel : Cert.quiescent_Kernel := fun m ρ _ => Cert.Kernel.Gen.frame m ρ

/-- The same of the kernel at the ideal instance. -/
theorem frame_kernelIdeal : Cert.quiescent_KernelIdeal := fun m ρ _ => Cert.KernelIdeal.Gen.frame m ρ

/-- The reference's run, read at its arguments; it declares no semaphore. -/
theorem frame_referenceIdeal : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The frames again, of the arguments the value claim is about. -/
theorem frame_kernelIdeal_pre : Cert.quiescent_KernelIdeal_pre_third_nearest_apart := fun m ρ _ => frame_kernelIdeal m ρ trivial

theorem frame_referenceIdeal_pre : Cert.quiescent_ReferenceIdeal_pre_third_nearest_apart := fun m ρ _ =>
  frame_referenceIdeal m ρ trivial

theorem claim : Cert.Claim := ⟨Cert.Kernel.Gen.facts, Cert.KernelIdeal.Gen.facts, Cert.ReferenceIdeal.Gen.facts,
  Cert.Pre_third_nearest_apart.Gen.facts, frame_kernel, frame_kernelIdeal, frame_kernelIdeal_pre, frame_referenceIdeal,
  frame_referenceIdeal_pre, trivial, Cert.KernelIdeal.Claim.algebraic⟩

end Cert.Proof

end
